-- ==== Defs.lean ====
def Pre_Guarded (m : (ℓ : Loc Cert.Guarded.nD Cert.Guarded.τ Cert.Guarded.sig) → Buf (Elt Bits) ℓ) : Prop :=
  True

def Pre_GuardedIdeal (m : (ℓ : Loc Cert.GuardedIdeal.nD Cert.GuardedIdeal.τ Cert.GuardedIdeal.sig) → Buf (Elt Ideal) ℓ) : Prop :=
  True

def Pre_GuardedIdeal_finite_routing [hPre_finite_routing : Cert.Pre_finite_routing.Facts] (m : (ℓ : Loc Cert.GuardedIdeal.nD Cert.GuardedIdeal.τ Cert.GuardedIdeal.sig) → Buf (Elt Ideal) ℓ) : Prop :=
  ∀ c : Dev Cert.GuardedIdeal.nD,
    (Cert.Pre_finite_routing.fn (F := Ideal) (m ((c.tc : Thread Cert.GuardedIdeal.nD Cert.GuardedIdeal.τ).loc Cert.GuardedIdeal.main_arg0)) (m ((c.tc : Thread Cert.GuardedIdeal.nD Cert.GuardedIdeal.τ).loc Cert.GuardedIdeal.main_arg1)) (m ((c.tc : Thread Cert.GuardedIdeal.nD Cert.GuardedIdeal.τ).loc Cert.GuardedIdeal.main_arg2)) (m ((c.tc : Thread Cert.GuardedIdeal.nD Cert.GuardedIdeal.τ).loc Cert.GuardedIdeal.main_arg3)) (m ((c.tc : Thread Cert.GuardedIdeal.nD Cert.GuardedIdeal.τ).loc Cert.GuardedIdeal.main_arg4)) (m ((c.tc : Thread Cert.GuardedIdeal.nD Cert.GuardedIdeal.τ).loc Cert.GuardedIdeal.main_arg5)) (m ((c.tc : Thread Cert.GuardedIdeal.nD Cert.GuardedIdeal.τ).loc Cert.GuardedIdeal.main_arg6)) (m ((c.tc : Thread Cert.GuardedIdeal.nD Cert.GuardedIdeal.τ).loc Cert.GuardedIdeal.main_arg7))).1 = (fun _ => 1#1)
    ∧ (Cert.Pre_finite_routing.fn (F := Ideal) (m ((c.tc : Thread Cert.GuardedIdeal.nD Cert.GuardedIdeal.τ).loc Cert.GuardedIdeal.main_arg0)) (m ((c.tc : Thread Cert.GuardedIdeal.nD Cert.GuardedIdeal.τ).loc Cert.GuardedIdeal.main_arg1)) (m ((c.tc : Thread Cert.GuardedIdeal.nD Cert.GuardedIdeal.τ).loc Cert.GuardedIdeal.main_arg2)) (m ((c.tc : Thread Cert.GuardedIdeal.nD Cert.GuardedIdeal.τ).loc Cert.GuardedIdeal.main_arg3)) (m ((c.tc : Thread Cert.GuardedIdeal.nD Cert.GuardedIdeal.τ).loc Cert.GuardedIdeal.main_arg4)) (m ((c.tc : Thread Cert.GuardedIdeal.nD Cert.GuardedIdeal.τ).loc Cert.GuardedIdeal.main_arg5)) (m ((c.tc : Thread Cert.GuardedIdeal.nD Cert.GuardedIdeal.τ).loc Cert.GuardedIdeal.main_arg6)) (m ((c.tc : Thread Cert.GuardedIdeal.nD Cert.GuardedIdeal.τ).loc Cert.GuardedIdeal.main_arg7))).2 = (fun _ => 1#1)

def Pre_KernelIdeal (m : (ℓ : Loc Cert.KernelIdeal.nD Cert.KernelIdeal.τ Cert.KernelIdeal.sig) → Buf (Elt Ideal) ℓ) : Prop :=
  True

def Pre_KernelIdeal_finite_routing [hPre_finite_routing : Cert.Pre_finite_routing.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing [hPre_finite_routing : Cert.Pre_finite_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Guarded [hGuarded : Cert.Guarded.Facts] : Prop :=
  ∀ (m : (ℓ : Loc Cert.Guarded.nD Cert.Guarded.τ Cert.Guarded.sig) → Buf (Elt Bits) ℓ) (g : Dev Cert.Guarded.nD → PrngReg), Pre_Guarded m →
    θ_run (Cert.Guarded.defs (F := Bits)) (onTc (τ := Cert.Guarded.τ) (Cert.Guarded.main (F := Bits))) ⟨m, fun _ => 0, g⟩ (fun r => (∀ c : Dev Cert.Guarded.nD,
      r.2.mem ((c.tc : Thread Cert.Guarded.nD Cert.Guarded.τ).loc Cert.Guarded.main_arg0) = m ((c.tc : Thread Cert.Guarded.nD Cert.Guarded.τ).loc Cert.Guarded.main_arg0)
      ∧ r.2.mem ((c.tc : Thread Cert.Guarded.nD Cert.Guarded.τ).loc Cert.Guarded.main_arg1) = m ((c.tc : Thread Cert.Guarded.nD Cert.Guarded.τ).loc Cert.Guarded.main_arg1)
      ∧ r.2.mem ((c.tc : Thread Cert.Guarded.nD Cert.Guarded.τ).loc Cert.Guarded.main_arg2) = m ((c.tc : Thread Cert.Guarded.nD Cert.Guarded.τ).loc Cert.Guarded.main_arg2)
      ∧ r.2.mem ((c.tc : Thread Cert.Guarded.nD Cert.Guarded.τ).loc Cert.Guarded.main_arg3) = m ((c.tc : Thread Cert.Guarded.nD Cert.Guarded.τ).loc Cert.Guarded.main_arg3)
      ∧ r.2.mem ((c.tc : Thread Cert.Guarded.nD Cert.Guarded.τ).loc Cert.Guarded.main_arg4) = m ((c.tc : Thread Cert.Guarded.nD Cert.Guarded.τ).loc Cert.Guarded.main_arg4)
      ∧ r.2.mem ((c.tc : Thread Cert.Guarded.nD Cert.Guarded.τ).loc Cert.Guarded.main_arg5) = m ((c.tc : Thread Cert.Guarded.nD Cert.Guarded.τ).loc Cert.Guarded.main_arg5)
      ∧ r.2.mem ((c.tc : Thread Cert.Guarded.nD Cert.Guarded.τ).loc Cert.Guarded.main_arg6) = m ((c.tc : Thread Cert.Guarded.nD Cert.Guarded.τ).loc Cert.Guarded.main_arg6)
      ∧ r.2.mem ((c.tc : Thread Cert.Guarded.nD Cert.Guarded.τ).loc Cert.Guarded.main_arg7) = m ((c.tc : Thread Cert.Guarded.nD Cert.Guarded.τ).loc Cert.Guarded.main_arg7))
      ∧ r.2.sem = fun _ => 0)

def quiescent_GuardedIdeal [hGuardedIdeal : Cert.GuardedIdeal.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1)
      ∧ r.2.mem ((c.tc : Thread Cert.GuardedIdeal.nD Cert.GuardedIdeal.τ).loc Cert.GuardedIdeal.main_arg2) = m ((c.tc : Thread Cert.GuardedIdeal.nD Cert.GuardedIdeal.τ).loc Cert.GuardedIdeal.main_arg2)
      ∧ r.2.mem ((c.tc : Thread Cert.GuardedIdeal.nD Cert.GuardedIdeal.τ).loc Cert.GuardedIdeal.main_arg3) = m ((c.tc : Thread Cert.GuardedIdeal.nD Cert.GuardedIdeal.τ).loc Cert.GuardedIdeal.main_arg3)
      ∧ r.2.mem ((c.tc : Thread Cert.GuardedIdeal.nD Cert.GuardedIdeal.τ).loc Cert.GuardedIdeal.main_arg4) = m ((c.tc : Thread Cert.GuardedIdeal.nD Cert.GuardedIdeal.τ).loc Cert.GuardedIdeal.main_arg4)
      ∧ r.2.mem ((c.tc : Thread Cert.GuardedIdeal.nD Cert.GuardedIdeal.τ).loc Cert.GuardedIdeal.main_arg5) = m ((c.tc : Thread Cert.GuardedIdeal.nD Cert.GuardedIdeal.τ).loc Cert.GuardedIdeal.main_arg5)
      ∧ r.2.mem ((c.tc : Thread Cert.GuardedIdeal.nD Cert.GuardedIdeal.τ).loc Cert.GuardedIdeal.main_arg6) = m ((c.tc : Thread Cert.GuardedIdeal.nD Cert.GuardedIdeal.τ).loc Cert.GuardedIdeal.main_arg6)
      ∧ r.2.mem ((c.tc : Thread Cert.GuardedIdeal.nD Cert.GuardedIdeal.τ).loc Cert.GuardedIdeal.main_arg7) = m ((c.tc : Thread Cert.GuardedIdeal.nD Cert.GuardedIdeal.τ).loc Cert.GuardedIdeal.main_arg7))
      ∧ r.2.sem = fun _ => 0)

def quiescent_GuardedIdeal_pre_finite_routing [hGuardedIdeal : Cert.GuardedIdeal.Facts] [hPre_finite_routing : Cert.Pre_finite_routing.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal_finite_routing m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1)
      ∧ r.2.mem ((c.tc : Thread Cert.GuardedIdeal.nD Cert.GuardedIdeal.τ).loc Cert.GuardedIdeal.main_arg2) = m ((c.tc : Thread Cert.GuardedIdeal.nD Cert.GuardedIdeal.τ).loc Cert.GuardedIdeal.main_arg2)
      ∧ r.2.mem ((c.tc : Thread Cert.GuardedIdeal.nD Cert.GuardedIdeal.τ).loc Cert.GuardedIdeal.main_arg3) = m ((c.tc : Thread Cert.GuardedIdeal.nD Cert.GuardedIdeal.τ).loc Cert.GuardedIdeal.main_arg3)
      ∧ r.2.mem ((c.tc : Thread Cert.GuardedIdeal.nD Cert.GuardedIdeal.τ).loc Cert.GuardedIdeal.main_arg4) = m ((c.tc : Thread Cert.GuardedIdeal.nD Cert.GuardedIdeal.τ).loc Cert.GuardedIdeal.main_arg4)
      ∧ r.2.mem ((c.tc : Thread Cert.GuardedIdeal.nD Cert.GuardedIdeal.τ).loc Cert.GuardedIdeal.main_arg5) = m ((c.tc : Thread Cert.GuardedIdeal.nD Cert.GuardedIdeal.τ).loc Cert.GuardedIdeal.main_arg5)
      ∧ r.2.mem ((c.tc : Thread Cert.GuardedIdeal.nD Cert.GuardedIdeal.τ).loc Cert.GuardedIdeal.main_arg6) = m ((c.tc : Thread Cert.GuardedIdeal.nD Cert.GuardedIdeal.τ).loc Cert.GuardedIdeal.main_arg6)
      ∧ r.2.mem ((c.tc : Thread Cert.GuardedIdeal.nD Cert.GuardedIdeal.τ).loc Cert.GuardedIdeal.main_arg7) = m ((c.tc : Thread Cert.GuardedIdeal.nD Cert.GuardedIdeal.τ).loc Cert.GuardedIdeal.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_routing [hKernelIdeal : Cert.KernelIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_routing [hReferenceIdeal : Cert.ReferenceIdeal.Facts] [hPre_finite_routing : Cert.Pre_finite_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Guarded_GuardedIdeal : Prop :=
  True

def algebraic_GuardedIdeal_ReferenceIdeal_pre_finite_routing [hGuardedIdeal : Cert.GuardedIdeal.Facts] [hReferenceIdeal : Cert.ReferenceIdeal.Facts] [hPre_finite_routing : Cert.Pre_finite_routing.Facts] : Prop :=
  ∀ (m : (ℓ : Loc Cert.GuardedIdeal.nD Cert.GuardedIdeal.τ Cert.GuardedIdeal.sig) → Buf (Elt Ideal) ℓ) (g : Dev Cert.GuardedIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_GuardedIdeal_finite_routing m →
    (∀ c : Dev Cert.GuardedIdeal.nD,
      m' ((c.tc : Thread Cert.ReferenceIdeal.nD Cert.ReferenceIdeal.τ).loc Cert.ReferenceIdeal.main_arg0) = m ((c.tc : Thread Cert.GuardedIdeal.nD Cert.GuardedIdeal.τ).loc Cert.GuardedIdeal.main_arg0)
      ∧ m' ((c.tc : Thread Cert.ReferenceIdeal.nD Cert.ReferenceIdeal.τ).loc Cert.ReferenceIdeal.main_arg1) = m ((c.tc : Thread Cert.GuardedIdeal.nD Cert.GuardedIdeal.τ).loc Cert.GuardedIdeal.main_arg1)
      ∧ m' ((c.tc : Thread Cert.ReferenceIdeal.nD Cert.ReferenceIdeal.τ).loc Cert.ReferenceIdeal.main_arg2) = m ((c.tc : Thread Cert.GuardedIdeal.nD Cert.GuardedIdeal.τ).loc Cert.GuardedIdeal.main_arg2)
      ∧ m' ((c.tc : Thread Cert.ReferenceIdeal.nD Cert.ReferenceIdeal.τ).loc Cert.ReferenceIdeal.main_arg3) = m ((c.tc : Thread Cert.GuardedIdeal.nD Cert.GuardedIdeal.τ).loc Cert.GuardedIdeal.main_arg3)
      ∧ m' ((c.tc : Thread Cert.ReferenceIdeal.nD Cert.ReferenceIdeal.τ).loc Cert.ReferenceIdeal.main_arg4) = m ((c.tc : Thread Cert.GuardedIdeal.nD Cert.GuardedIdeal.τ).loc Cert.GuardedIdeal.main_arg4)
      ∧ m' ((c.tc : Thread Cert.ReferenceIdeal.nD Cert.ReferenceIdeal.τ).loc Cert.ReferenceIdeal.main_arg5) = m ((c.tc : Thread Cert.GuardedIdeal.nD Cert.GuardedIdeal.τ).loc Cert.GuardedIdeal.main_arg5)
      ∧ m' ((c.tc : Thread Cert.ReferenceIdeal.nD Cert.ReferenceIdeal.τ).loc Cert.ReferenceIdeal.main_arg6) = m ((c.tc : Thread Cert.GuardedIdeal.nD Cert.GuardedIdeal.τ).loc Cert.GuardedIdeal.main_arg6)
      ∧ m' ((c.tc : Thread Cert.ReferenceIdeal.nD Cert.ReferenceIdeal.τ).loc Cert.ReferenceIdeal.main_arg7) = m ((c.tc : Thread Cert.GuardedIdeal.nD Cert.GuardedIdeal.τ).loc Cert.GuardedIdeal.main_arg7)) →
    ∃ (v0 : (c : Dev Cert.GuardedIdeal.nD) → Buf (Elt Ideal) ((c.tc : Thread Cert.GuardedIdeal.nD Cert.GuardedIdeal.τ).loc Cert.GuardedIdeal.main_v0_0)) (v1 : (c : Dev Cert.GuardedIdeal.nD) → Buf (Elt Ideal) ((c.tc : Thread Cert.GuardedIdeal.nD Cert.GuardedIdeal.τ).loc Cert.GuardedIdeal.main_v1)),
      θ_run (Cert.GuardedIdeal.defs (F := Ideal)) (onTc (τ := Cert.GuardedIdeal.τ) (Cert.GuardedIdeal.main (F := Ideal))) ⟨m, fun _ => 0, g⟩ (fun r => ∀ c : Dev Cert.GuardedIdeal.nD,
          r.2.mem ((c.tc : Thread Cert.GuardedIdeal.nD Cert.GuardedIdeal.τ).loc Cert.GuardedIdeal.main_v0_0) = v0 c
          ∧ r.2.mem ((c.tc : Thread Cert.GuardedIdeal.nD Cert.GuardedIdeal.τ).loc Cert.GuardedIdeal.main_v1) = v1 c
          ∧ r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
          ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1)
          ∧ r.2.mem ((c.tc : Thread Cert.GuardedIdeal.nD Cert.GuardedIdeal.τ).loc Cert.GuardedIdeal.main_arg2) = m ((c.tc : Thread Cert.GuardedIdeal.nD Cert.GuardedIdeal.τ).loc Cert.GuardedIdeal.main_arg2)
          ∧ r.2.mem ((c.tc : Thread Cert.GuardedIdeal.nD Cert.GuardedIdeal.τ).loc Cert.GuardedIdeal.main_arg3) = m ((c.tc : Thread Cert.GuardedIdeal.nD Cert.GuardedIdeal.τ).loc Cert.GuardedIdeal.main_arg3)
          ∧ r.2.mem ((c.tc : Thread Cert.GuardedIdeal.nD Cert.GuardedIdeal.τ).loc Cert.GuardedIdeal.main_arg4) = m ((c.tc : Thread Cert.GuardedIdeal.nD Cert.GuardedIdeal.τ).loc Cert.GuardedIdeal.main_arg4)
          ∧ r.2.mem ((c.tc : Thread Cert.GuardedIdeal.nD Cert.GuardedIdeal.τ).loc Cert.GuardedIdeal.main_arg5) = m ((c.tc : Thread Cert.GuardedIdeal.nD Cert.GuardedIdeal.τ).loc Cert.GuardedIdeal.main_arg5)
          ∧ r.2.mem ((c.tc : Thread Cert.GuardedIdeal.nD Cert.GuardedIdeal.τ).loc Cert.GuardedIdeal.main_arg6) = m ((c.tc : Thread Cert.GuardedIdeal.nD Cert.GuardedIdeal.τ).loc Cert.GuardedIdeal.main_arg6)
          ∧ r.2.mem ((c.tc : Thread Cert.GuardedIdeal.nD Cert.GuardedIdeal.τ).loc Cert.GuardedIdeal.main_arg7) = m ((c.tc : Thread Cert.GuardedIdeal.nD Cert.GuardedIdeal.τ).loc Cert.GuardedIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_KernelIdeal_ReferenceIdeal_pre_finite_routing [hKernelIdeal : Cert.KernelIdeal.Facts] [hReferenceIdeal : Cert.ReferenceIdeal.Facts] [hPre_finite_routing : Cert.Pre_finite_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hGuarded : Cert.Guarded.Facts) (hGuardedIdeal : Cert.GuardedIdeal.Facts) (hKernelIdeal : Cert.KernelIdeal.Facts) (hReferenceIdeal : Cert.ReferenceIdeal.Facts) (hPre_finite_routing : Cert.Pre_finite_routing.Facts),
    quiescent_Guarded (hGuarded := hGuarded)
    ∧ quiescent_GuardedIdeal (hGuardedIdeal := hGuardedIdeal)
    ∧ quiescent_GuardedIdeal_pre_finite_routing (hGuardedIdeal := hGuardedIdeal) (hPre_finite_routing := hPre_finite_routing)
    ∧ quiescent_KernelIdeal (hKernelIdeal := hKernelIdeal)
    ∧ quiescent_KernelIdeal_pre_finite_routing (hKernelIdeal := hKernelIdeal) (hPre_finite_routing := hPre_finite_routing)
    ∧ quiescent_ReferenceIdeal (hReferenceIdeal := hReferenceIdeal)
    ∧ quiescent_ReferenceIdeal_pre_finite_routing (hReferenceIdeal := hReferenceIdeal) (hPre_finite_routing := hPre_finite_routing)
    ∧ preserves_Guarded_GuardedIdeal
    ∧ algebraic_GuardedIdeal_ReferenceIdeal_pre_finite_routing (hGuardedIdeal := hGuardedIdeal) (hReferenceIdeal := hReferenceIdeal) (hPre_finite_routing := hPre_finite_routing)
    ∧ algebraic_KernelIdeal_ReferenceIdeal_pre_finite_routing (hKernelIdeal := hKernelIdeal) (hReferenceIdeal := hReferenceIdeal) (hPre_finite_routing := hPre_finite_routing)
-- ==== Pre_finite_routing.lean ====
abbrev S2x2048x768 : Shape := ⟨3, ![2, 2048, 768]⟩
abbrev S10x768 : Shape := ⟨2, ![10, 768]⟩
abbrev S10x512x2048 : Shape := ⟨3, ![10, 512, 2048]⟩
abbrev S10x512 : Shape := ⟨2, ![10, 512]⟩
abbrev S10x2048x512 : Shape := ⟨3, ![10, 2048, 512]⟩
abbrev S10x2048 : Shape := ⟨2, ![10, 2048]⟩
abbrev S768x768 : Shape := ⟨2, ![768, 768]⟩
abbrev S768 : Shape := ⟨1, ![768]⟩
abbrev S_ : Shape := ⟨0, ![]⟩

class Facts : Prop where
  bcast_S_S2x2048x768 : S_.BroadcastsInDim S2x2048x768 (![] : Fin 0 → Fin S2x2048x768.rank)
  bcast_S_S10x768 : S_.BroadcastsInDim S10x768 (![] : Fin 0 → Fin S10x768.rank)

variable [Facts]

def fn {F : FTy → Type} [FloatOps F] (main_arg0 : FVec F S2x2048x768 .f32) (main_arg1 : FVec F S10x768 .f32) (main_arg2 : FVec F S10x512x2048 .f32) (main_arg3 : FVec F S10x512 .f32) (main_arg4 : FVec F S10x2048x512 .f32) (main_arg5 : FVec F S10x2048 .f32) (main_arg6 : FVec F S768x768 .f32) (main_arg7 : FVec F S768 .f32) : IVec S2x2048x768 1 × IVec S10x768 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_v3 : FVec F S10x768 .f32 := Host.absf main_arg1
  let main_cst_0 : FVec F S_ .f32 := constant S_ .f32 0x7F800000#32
  let main_v4 : FVec F S10x768 .f32 := broadcastInDim S10x768 ![] bcast_S_S10x768 main_cst_0
  let main_v5 : IVec S10x768 1 := cmpf .olt main_v3 main_v4
  (main_v2, main_v5)
-- ==== Guarded.lean ====
abbrev S2x2048x768 : Shape := ⟨3, ![2, 2048, 768]⟩
abbrev S10x768 : Shape := ⟨2, ![10, 768]⟩
abbrev S10x512x2048 : Shape := ⟨3, ![10, 512, 2048]⟩
abbrev S10x512 : Shape := ⟨2, ![10, 512]⟩
abbrev S10x2048x512 : Shape := ⟨3, ![10, 2048, 512]⟩
abbrev S10x2048 : Shape := ⟨2, ![10, 2048]⟩
abbrev S768x768 : Shape := ⟨2, ![768, 768]⟩
abbrev S768 : Shape := ⟨1, ![768]⟩
abbrev S1x1 : Shape := ⟨2, ![1, 1]⟩
abbrev S1x1024x768 : Shape := ⟨3, ![1, 1024, 768]⟩
abbrev S512x768 : Shape := ⟨2, ![512, 768]⟩
abbrev S4096x768 : Shape := ⟨2, ![4096, 768]⟩
abbrev S512x2048 : Shape := ⟨2, ![512, 2048]⟩
abbrev S2048x512 : Shape := ⟨2, ![2048, 512]⟩
abbrev S1x10 : Shape := ⟨2, ![1, 10]⟩
abbrev S2048x1 : Shape := ⟨2, ![2048, 1]⟩
abbrev S2 : Shape := ⟨1, ![2]⟩
abbrev S4 : Shape := ⟨1, ![4]⟩
abbrev S_ : Shape := ⟨0, ![]⟩
abbrev S1 : Shape := ⟨1, ![1]⟩
abbrev S1024x768 : Shape := ⟨2, ![1024, 768]⟩
abbrev S1x768 : Shape := ⟨2, ![1, 768]⟩
abbrev S1x512x2048 : Shape := ⟨3, ![1, 512, 2048]⟩
abbrev S1024x512 : Shape := ⟨2, ![1024, 512]⟩
abbrev S1x1024x512 : Shape := ⟨3, ![1, 1024, 512]⟩
abbrev S1x1x10 : Shape := ⟨3, ![1, 1, 10]⟩
abbrev S1x1x1 : Shape := ⟨3, ![1, 1, 1]⟩
abbrev S2048x768 : Shape := ⟨2, ![2048, 768]⟩
abbrev S1x512 : Shape := ⟨2, ![1, 512]⟩
abbrev S512x1 : Shape := ⟨2, ![512, 1]⟩
abbrev S1x2048 : Shape := ⟨2, ![1, 2048]⟩
abbrev S1024x1 : Shape := ⟨2, ![1024, 1]⟩

abbrev nBuf : Space → Nat
  | .hbm => 11
  | .vmem => 14
  | .smem => 1
  | _ => 0

abbrev bufTy : (tb : Table) → Fin (tcTables nBuf tb) → BufTy
  | .hbm, ⟨0, _⟩ => ⟨S2x2048x768, .f32⟩
  | .hbm, ⟨1, _⟩ => ⟨S10x768, .f32⟩
  | .hbm, ⟨2, _⟩ => ⟨S10x512x2048, .f32⟩
  | .hbm, ⟨3, _⟩ => ⟨S10x512, .f32⟩
  | .hbm, ⟨4, _⟩ => ⟨S10x2048x512, .f32⟩
  | .hbm, ⟨5, _⟩ => ⟨S10x2048, .f32⟩
  | .hbm, ⟨6, _⟩ => ⟨S768x768, .f32⟩
  | .hbm, ⟨7, _⟩ => ⟨S768, .f32⟩
  | .hbm, ⟨8, _⟩ => ⟨S2x2048x768, .f32⟩
  | .hbm, ⟨9, _⟩ => ⟨S1x1, .f32⟩
  | .hbm, ⟨10, _⟩ => ⟨S_, .f32⟩
  | .local _ .vmem, ⟨0, _⟩ => ⟨S10x768, .f32⟩
  | .local _ .vmem, ⟨1, _⟩ => ⟨S10x512, .f32⟩
  | .local _ .vmem, ⟨2, _⟩ => ⟨S10x2048, .f32⟩
  | .local _ .vmem, ⟨3, _⟩ => ⟨S768x768, .f32⟩
  | .local _ .vmem, ⟨4, _⟩ => ⟨S768, .f32⟩
  | .local _ .vmem, ⟨5, _⟩ => ⟨S1x1024x768, .f32⟩
  | .local _ .vmem, ⟨6, _⟩ => ⟨S1x1024x768, .f32⟩
  | .local _ .vmem, ⟨7, _⟩ => ⟨S1x1, .f32⟩
  | .local _ .vmem, ⟨8, _⟩ => ⟨S512x768, .f32⟩
  | .local _ .vmem, ⟨9, _⟩ => ⟨S4096x768, .f32⟩
  | .local _ .vmem, ⟨10, _⟩ => ⟨S512x2048, .f32⟩
  | .local _ .vmem, ⟨11, _⟩ => ⟨S2048x512, .f32⟩
  | .local _ .vmem, ⟨12, _⟩ => ⟨S1x10, .f32⟩
  | .local _ .vmem, ⟨13, _⟩ => ⟨S2048x1, .f32⟩
  | .local _ .smem, ⟨0, _⟩ => ⟨S2, .i32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c0_i32_4 : BitVec 32 := 0#32
  let v10 : BitVec 1 := Scalar.cmpi .eq arg1 c0_i32_4
  let v11 : BitVec 32 := Scalar.extui v10
  let c0_i32_5 : BitVec 32 := 0#32
  let v12 : BitVec 1 := Scalar.cmpi .ne v11 c0_i32_5
  v12

def k0_off1 (i : grid0.Coords) (c0_i32_12 : BitVec 32) : Fin 1 → Nat :=
  let arg0 : BitVec 32 := BitVec.ofNat 32 (i 0).val
  let c2_i32_11 : BitVec 32 := 2#32
  let v22 : BitVec 32 := Scalar.muli arg0 c2_i32_11
  let v23 : BitVec 32 := Scalar.addi v22 c0_i32_12
  ![v23.toNat]
def k0_off2 (i : grid0.Coords) (c0_i32_10 : BitVec 32) : Fin 2 → Nat :=
  let arg0 : BitVec 32 := BitVec.ofNat 32 (i 0).val
  let c2_i32_9 : BitVec 32 := 2#32
  let v19 : BitVec 32 := Scalar.muli arg0 c2_i32_9
  let v20 : BitVec 32 := Scalar.addi v19 c0_i32_10
  let c1024_i32 : BitVec 32 := 1024#32
  let v21 : BitVec 32 := Scalar.muli v20 c1024_i32
  let c0_i32_13 : BitVec 32 := 0#32
  ![v21.toNat, 0]
def k0_off3 (i : grid0.Coords) : Fin 3 → Nat :=
  let arg0 : BitVec 32 := BitVec.ofNat 32 (i 0).val
  let c0_i32_14 : BitVec 32 := 0#32
  let c0_i32_15 : BitVec 32 := 0#32
  ![arg0.toNat, 0, 0]
def k0_off4 (i : grid0.Coords) (c0_i32_17 : BitVec 32) : Fin 2 → Nat :=
  let arg0 : BitVec 32 := BitVec.ofNat 32 (i 0).val
  let c2_i32_16 : BitVec 32 := 2#32
  let v29 : BitVec 32 := Scalar.muli arg0 c2_i32_16
  let v30 : BitVec 32 := Scalar.addi v29 c0_i32_17
  let c1024_i32_18 : BitVec 32 := 1024#32
  let v31 : BitVec 32 := Scalar.muli v30 c1024_i32_18
  let v32 : Index := Scalar.indexCast v31
  let c0 : Index := 0#32
  ![v32.toNat, 0]
def k0_off5 (i : grid0.Coords) : Fin 3 → Nat :=
  let arg0 : BitVec 32 := BitVec.ofNat 32 (i 0).val
  let c1024_i32_26 : BitVec 32 := 1024#32
  let c0_i32_27 : BitVec 32 := 0#32
  ![arg0.toNat, 1024, 0]
def k0_off6 (i : grid0.Coords) : Fin 1 → Nat :=
  let arg0 : BitVec 32 := BitVec.ofNat 32 (i 0).val
  let v99 : Index := Scalar.indexCast arg0
  ![v99.toNat]
def k0_off7 (v98 : BitVec 32) : Fin 3 → Nat :=
  let c0_i32_48 : BitVec 32 := 0#32
  let c0_i32_49 : BitVec 32 := 0#32
  ![v98.toNat, 0, 0]

def k0_off8 (v98 : BitVec 32) : Fin 3 → Nat :=
  let c0_i32_53 : BitVec 32 := 0#32
  let c0_i32_54 : BitVec 32 := 0#32
  ![v98.toNat, 0, 0]
def k0_off9 (v98 : BitVec 32) : Fin 3 → Nat :=
  let c1024_i32_58 : BitVec 32 := 1024#32
  let c0_i32_59 : BitVec 32 := 0#32
  ![v98.toNat, 1024, 0]

def k0_chk1 (i : grid0.Coords) (v98 : BitVec 32) : Prop :=
  (∀ (k0_h3 : k0_cond3 i = 1#1), ∀ a, (k0_off7 v98) a + S1x512x2048.size a ≤ S10x512x2048.size a) ∧
  (∀ (k0_h3 : k0_cond3 i = 1#1), ∀ a, (k0_off8 v98) a + S1x1024x512.size a ≤ S10x2048x512.size a) ∧
  (∀ (k0_h3 : k0_cond3 i = 1#1), ∀ a, (k0_off9 v98) a + S1x1024x512.size a ≤ S10x2048x512.size a)
theorem k0_off7_inb : ∀ (i : grid0.Coords) (v98 : BitVec 32) (k0_hw1 : k0_chk1 i v98), ∀ (k0_h3 : k0_cond3 i = 1#1), ∀ a, (k0_off7 v98) a + S1x512x2048.size a ≤ S10x512x2048.size a := fun i v98 k0_hw1 k0_h3 => k0_hw1.1 k0_h3
theorem k0_off8_inb : ∀ (i : grid0.Coords) (v98 : BitVec 32) (k0_hw1 : k0_chk1 i v98), ∀ (k0_h3 : k0_cond3 i = 1#1), ∀ a, (k0_off8 v98) a + S1x1024x512.size a ≤ S10x2048x512.size a := fun i v98 k0_hw1 k0_h3 => k0_hw1.2.1 k0_h3
theorem k0_off9_inb : ∀ (i : grid0.Coords) (v98 : BitVec 32) (k0_hw1 : k0_chk1 i v98), ∀ (k0_h3 : k0_cond3 i = 1#1), ∀ a, (k0_off9 v98) a + S1x1024x512.size a ≤ S10x2048x512.size a := fun i v98 k0_hw1 k0_h3 => k0_hw1.2.2 k0_h3

def k0_cond6 (i : grid0.Coords) : BitVec 1 :=
  let arg1 : BitVec 32 := BitVec.ofNat 32 (i 1).val
  let c1_i32_6 : BitVec 32 := 1#32
  let v13 : BitVec 1 := Scalar.cmpi .eq arg1 c1_i32_6
  let v14 : BitVec 32 := Scalar.extui v13
  let c0_i32_7 : BitVec 32 := 0#32
  let v15 : BitVec 1 := Scalar.cmpi .ne v14 c0_i32_7
  v15

def k0_off10 (i : grid0.Coords) : Fin 1 → Nat :=
  let arg0 : BitVec 32 := BitVec.ofNat 32 (i 0).val
  let v19 : Index := Scalar.indexCast arg0
  ![v19.toNat]
def k0_off11 (i : grid0.Coords) : Fin 2 → Nat :=
  let arg0 : BitVec 32 := BitVec.ofNat 32 (i 0).val
  let c2048_i32 : BitVec 32 := 2048#32
  let v23 : BitVec 32 := Scalar.muli arg0 c2048_i32
  let v24 : Index := Scalar.indexCast v23
  let c0_11 : Index := 0#32
  ![v24.toNat, 0]
def k0_off12 (v20 : BitVec 32) : Fin 3 → Nat :=
  let c0_i32_14 : BitVec 32 := 0#32
  let c0_i32_15 : BitVec 32 := 0#32
  ![v20.toNat, 0, 0]

def k0_off13 (i : grid0.Coords) : Fin 2 → Nat :=
  let arg0 : BitVec 32 := BitVec.ofNat 32 (i 0).val
  let c2048_i32_18 : BitVec 32 := 2048#32
  let v38 : BitVec 32 := Scalar.muli arg0 c2048_i32_18
  let v39 : Index := Scalar.indexCast v38
  let c0_19 : Index := 0#32
  ![v39.toNat, 0]
def k0_off14 (v20 : BitVec 32) : Fin 2 → Nat :=
  let v42 : Index := Scalar.indexCast v20
  let c0_20 : Index := 0#32
  ![v42.toNat, 0]
def k0_off15 (v20 : BitVec 32) : Fin 2 → Nat :=
  let v45 : Index := Scalar.indexCast v20
  let c0_21 : Index := 0#32
  ![v45.toNat, 0]

def k0_chk2 (i : grid0.Coords) (v20 : BitVec 32) : Prop :=
  (∀ (k0_h6 : k0_cond6 i = 1#1), ∀ a, (k0_off12 v20) a + S1x512x2048.size a ≤ S10x512x2048.size a) ∧
  (∀ (k0_h6 : k0_cond6 i = 1#1), ∀ a, (k0_off14 v20) a + S1x512.size a ≤ S10x512.size a) ∧
  (∀ (k0_h6 : k0_cond6 i = 1#1), ∀ a, (k0_off15 v20) a + S1x2048.size a ≤ S10x2048.size a)
theorem k0_off12_inb : ∀ (i : grid0.Coords) (v20 : BitVec 32) (k0_hw2 : k0_chk2 i v20), ∀ (k0_h6 : k0_cond6 i = 1#1), ∀ a, (k0_off12 v20) a + S1x512x2048.size a ≤ S10x512x2048.size a := fun i v20 k0_hw2 k0_h6 => k0_hw2.1 k0_h6
theorem k0_off14_inb : ∀ (i : grid0.Coords) (v20 : BitVec 32) (k0_hw2 : k0_chk2 i v20), ∀ (k0_h6 : k0_cond6 i = 1#1), ∀ a, (k0_off14 v20) a + S1x512.size a ≤ S10x512.size a := fun i v20 k0_hw2 k0_h6 => k0_hw2.2.1 k0_h6
theorem k0_off15_inb : ∀ (i : grid0.Coords) (v20 : BitVec 32) (k0_hw2 : k0_chk2 i v20), ∀ (k0_h6 : k0_cond6 i = 1#1), ∀ a, (k0_off15 v20) a + S1x2048.size a ≤ S10x2048.size a := fun i v20 k0_hw2 k0_h6 => k0_hw2.2.2 k0_h6

def k0_cond7 (i : grid0.Coords) : BitVec 1 :=
  let arg1 : BitVec 32 := BitVec.ofNat 32 (i 1).val
  let c2_i32 : BitVec 32 := 2#32
  let v16 : BitVec 1 := Scalar.cmpi .sge arg1 c2_i32
  let v17 : BitVec 32 := Scalar.extui v16
  let c0_i32_8 : BitVec 32 := 0#32
  let v18 : BitVec 1 := Scalar.cmpi .ne v17 c0_i32_8
  v18

def k0_off16 (i : grid0.Coords) : Fin 1 → Nat :=
  let arg0 : BitVec 32 := BitVec.ofNat 32 (i 0).val
  let v19 : Index := Scalar.indexCast arg0
  ![v19.toNat]
def k0_off17 (i : grid0.Coords) : Fin 1 → Nat :=
  let arg1 : BitVec 32 := BitVec.ofNat 32 (i 1).val
  let c2_i32_9 : BitVec 32 := 2#32
  let v21 : BitVec 32 := Scalar.subi arg1 c2_i32_9
  ![v21.toNat]
def k0_off18 (i : grid0.Coords) : Fin 2 → Nat :=
  let arg1 : BitVec 32 := BitVec.ofNat 32 (i 1).val
  let c2_i32_9 : BitVec 32 := 2#32
  let v21 : BitVec 32 := Scalar.subi arg1 c2_i32_9
  let c1024_i32_10 : BitVec 32 := 1024#32
  let v23 : BitVec 32 := Scalar.muli v21 c1024_i32_10
  let c0_i32_11 : BitVec 32 := 0#32
  ![v23.toNat, 0]
def k0_off19 (i : grid0.Coords) (v20 : BitVec 32) : Fin 3 → Nat :=
  let arg1 : BitVec 32 := BitVec.ofNat 32 (i 1).val
  let c2_i32_9 : BitVec 32 := 2#32
  let v21 : BitVec 32 := Scalar.subi arg1 c2_i32_9
  let c1024_i32 : BitVec 32 := 1024#32
  let v22 : BitVec 32 := Scalar.muli v21 c1024_i32
  let c0_i32_12 : BitVec 32 := 0#32
  ![v20.toNat, v22.toNat, 0]

def k0_chk3 (i : grid0.Coords) (v20 : BitVec 32) : Prop :=
  (∀ (k0_h7 : k0_cond7 i = 1#1), ∀ a, (k0_off19 i v20) a + S1x1024x512.size a ≤ S10x2048x512.size a)
theorem k0_off19_inb : ∀ (i : grid0.Coords) (v20 : BitVec 32) (k0_hw3 : k0_chk3 i v20), ∀ (k0_h7 : k0_cond7 i = 1#1), ∀ a, (k0_off19 i v20) a + S1x1024x512.size a ≤ S10x2048x512.size a := fun i v20 k0_hw3 k0_h7 => k0_hw3 k0_h7

def k0_off20 (i : grid0.Coords) : Fin 2 → Nat :=
  let arg1 : BitVec 32 := BitVec.ofNat 32 (i 1).val
  let c2_i32_9 : BitVec 32 := 2#32
  let v21 : BitVec 32 := Scalar.subi arg1 c2_i32_9
  let c1024_i32_13 : BitVec 32 := 1024#32
  let v29 : BitVec 32 := Scalar.muli v21 c1024_i32_13
  let v30 : Index := Scalar.indexCast v29
  let c0 : Index := 0#32
  ![v30.toNat, 0]
def k0_off21 (i : grid0.Coords) : Fin 2 → Nat :=
  let arg1 : BitVec 32 := BitVec.ofNat 32 (i 1).val
  let c2_i32_9 : BitVec 32 := 2#32
  let v21 : BitVec 32 := Scalar.subi arg1 c2_i32_9
  let c1024_i32_16 : BitVec 32 := 1024#32
  let v34 : BitVec 32 := Scalar.muli v21 c1024_i32_16
  let v35 : Index := Scalar.indexCast v34
  let c0_17 : Index := 0#32
  ![v35.toNat, 0]
def k0_cond5 (i : grid0.Coords) : BitVec 1 :=
  let arg0 : BitVec 32 := BitVec.ofNat 32 (i 0).val
  let c1_i32_62 : BitVec 32 := 1#32
  let v116 : BitVec 1 := Scalar.cmpi .eq arg0 c1_i32_62
  let v117 : BitVec 32 := Scalar.extui v116
  let c0_i32_63 : BitVec 32 := 0#32
  let v118 : BitVec 1 := Scalar.cmpi .ne v117 c0_i32_63
  v118

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S10x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S10x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== KernelIdeal.lean ====
abbrev S2x2048x768 : Shape := ⟨3, ![2, 2048, 768]⟩
abbrev S10x768 : Shape := ⟨2, ![10, 768]⟩
abbrev S10x512x2048 : Shape := ⟨3, ![10, 512, 2048]⟩
abbrev S10x512 : Shape := ⟨2, ![10, 512]⟩
abbrev S10x2048x512 : Shape := ⟨3, ![10, 2048, 512]⟩
abbrev S10x2048 : Shape := ⟨2, ![10, 2048]⟩
abbrev S768x768 : Shape := ⟨2, ![768, 768]⟩
abbrev S768 : Shape := ⟨1, ![768]⟩
abbrev S1x1 : Shape := ⟨2, ![1, 1]⟩
abbrev S1x1024x768 : Shape := ⟨3, ![1, 1024, 768]⟩
abbrev S512x768 : Shape := ⟨2, ![512, 768]⟩
abbrev S4096x768 : Shape := ⟨2, ![4096, 768]⟩
abbrev S512x2048 : Shape := ⟨2, ![512, 2048]⟩
abbrev S2048x512 : Shape := ⟨2, ![2048, 512]⟩
abbrev S1x10 : Shape := ⟨2, ![1, 10]⟩
abbrev S2048x1 : Shape := ⟨2, ![2048, 1]⟩
abbrev S2 : Shape := ⟨1, ![2]⟩
abbrev S4 : Shape := ⟨1, ![4]⟩
abbrev S_ : Shape := ⟨0, ![]⟩
abbrev S1 : Shape := ⟨1, ![1]⟩
abbrev S1024x768 : Shape := ⟨2, ![1024, 768]⟩
abbrev S1x768 : Shape := ⟨2, ![1, 768]⟩
abbrev S1x512x2048 : Shape := ⟨3, ![1, 512, 2048]⟩
abbrev S1024x512 : Shape := ⟨2, ![1024, 512]⟩
abbrev S1x1024x512 : Shape := ⟨3, ![1, 1024, 512]⟩
abbrev S1x1x10 : Shape := ⟨3, ![1, 1, 10]⟩
abbrev S1x1x1 : Shape := ⟨3, ![1, 1, 1]⟩
abbrev S2048x768 : Shape := ⟨2, ![2048, 768]⟩
abbrev S1x512 : Shape := ⟨2, ![1, 512]⟩
abbrev S512x1 : Shape := ⟨2, ![512, 1]⟩
abbrev S1x2048 : Shape := ⟨2, ![1, 2048]⟩
abbrev S1024x1 : Shape := ⟨2, ![1024, 1]⟩

abbrev nBuf : Space → Nat
  | .hbm => 11
  | .vmem => 14
  | .smem => 1
  | _ => 0

abbrev bufTy : (tb : Table) → Fin (tcTables nBuf tb) → BufTy
  | .hbm, ⟨0, _⟩ => ⟨S2x2048x768, .f32⟩
  | .hbm, ⟨1, _⟩ => ⟨S10x768, .f32⟩
  | .hbm, ⟨2, _⟩ => ⟨S10x512x2048, .f32⟩
  | .hbm, ⟨3, _⟩ => ⟨S10x512, .f32⟩
  | .hbm, ⟨4, _⟩ => ⟨S10x2048x512, .f32⟩
  | .hbm, ⟨5, _⟩ => ⟨S10x2048, .f32⟩
  | .hbm, ⟨6, _⟩ => ⟨S768x768, .f32⟩
  | .hbm, ⟨7, _⟩ => ⟨S768, .f32⟩
  | .hbm, ⟨8, _⟩ => ⟨S2x2048x768, .f32⟩
  | .hbm, ⟨9, _⟩ => ⟨S1x1, .f32⟩
  | .hbm, ⟨10, _⟩ => ⟨S_, .f32⟩
  | .local _ .vmem, ⟨0, _⟩ => ⟨S10x768, .f32⟩
  | .local _ .vmem, ⟨1, _⟩ => ⟨S10x512, .f32⟩
  | .local _ .vmem, ⟨2, _⟩ => ⟨S10x2048, .f32⟩
  | .local _ .vmem, ⟨3, _⟩ => ⟨S768x768, .f32⟩
  | .local _ .vmem, ⟨4, _⟩ => ⟨S768, .f32⟩
  | .local _ .vmem, ⟨5, _⟩ => ⟨S1x1024x768, .f32⟩
  | .local _ .vmem, ⟨6, _⟩ => ⟨S1x1024x768, .f32⟩
  | .local _ .vmem, ⟨7, _⟩ => ⟨S1x1, .f32⟩
  | .local _ .vmem, ⟨8, _⟩ => ⟨S512x768, .f32⟩
  | .local _ .vmem, ⟨9, _⟩ => ⟨S4096x768, .f32⟩
  | .local _ .vmem, ⟨10, _⟩ => ⟨S512x2048, .f32⟩
  | .local _ .vmem, ⟨11, _⟩ => ⟨S2048x512, .f32⟩
  | .local _ .vmem, ⟨12, _⟩ => ⟨S1x10, .f32⟩
  | .local _ .vmem, ⟨13, _⟩ => ⟨S2048x1, .f32⟩
  | .local _ .smem, ⟨0, _⟩ => ⟨S2, .i32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c0_i32_4 : BitVec 32 := 0#32
  let v10 : BitVec 1 := Scalar.cmpi .eq arg1 c0_i32_4
  let v11 : BitVec 32 := Scalar.extui v10
  let c0_i32_5 : BitVec 32 := 0#32
  let v12 : BitVec 1 := Scalar.cmpi .ne v11 c0_i32_5
  v12

def k0_off1 (i : grid0.Coords) (c0_i32_12 : BitVec 32) : Fin 1 → Nat :=
  let arg0 : BitVec 32 := BitVec.ofNat 32 (i 0).val
  let c2_i32_11 : BitVec 32 := 2#32
  let v22 : BitVec 32 := Scalar.muli arg0 c2_i32_11
  let v23 : BitVec 32 := Scalar.addi v22 c0_i32_12
  ![v23.toNat]
def k0_off2 (i : grid0.Coords) (c0_i32_10 : BitVec 32) : Fin 2 → Nat :=
  let arg0 : BitVec 32 := BitVec.ofNat 32 (i 0).val
  let c2_i32_9 : BitVec 32 := 2#32
  let v19 : BitVec 32 := Scalar.muli arg0 c2_i32_9
  let v20 : BitVec 32 := Scalar.addi v19 c0_i32_10
  let c1024_i32 : BitVec 32 := 1024#32
  let v21 : BitVec 32 := Scalar.muli v20 c1024_i32
  let c0_i32_13 : BitVec 32 := 0#32
  ![v21.toNat, 0]
def k0_off3 (i : grid0.Coords) : Fin 3 → Nat :=
  let arg0 : BitVec 32 := BitVec.ofNat 32 (i 0).val
  let c0_i32_14 : BitVec 32 := 0#32
  let c0_i32_15 : BitVec 32 := 0#32
  ![arg0.toNat, 0, 0]
def k0_off4 (i : grid0.Coords) (c0_i32_17 : BitVec 32) : Fin 2 → Nat :=
  let arg0 : BitVec 32 := BitVec.ofNat 32 (i 0).val
  let c2_i32_16 : BitVec 32 := 2#32
  let v29 : BitVec 32 := Scalar.muli arg0 c2_i32_16
  let v30 : BitVec 32 := Scalar.addi v29 c0_i32_17
  let c1024_i32_18 : BitVec 32 := 1024#32
  let v31 : BitVec 32 := Scalar.muli v30 c1024_i32_18
  let v32 : Index := Scalar.indexCast v31
  let c0 : Index := 0#32
  ![v32.toNat, 0]
def k0_off5 (i : grid0.Coords) : Fin 3 → Nat :=
  let arg0 : BitVec 32 := BitVec.ofNat 32 (i 0).val
  let c1024_i32_26 : BitVec 32 := 1024#32
  let c0_i32_27 : BitVec 32 := 0#32
  ![arg0.toNat, 1024, 0]
def k0_off6 (i : grid0.Coords) : Fin 1 → Nat :=
  let arg0 : BitVec 32 := BitVec.ofNat 32 (i 0).val
  let v99 : Index := Scalar.indexCast arg0
  ![v99.toNat]
def k0_off7 (v98 : BitVec 32) : Fin 3 → Nat :=
  let c0_i32_48 : BitVec 32 := 0#32
  let c0_i32_49 : BitVec 32 := 0#32
  ![v98.toNat, 0, 0]

def k0_off8 (v98 : BitVec 32) : Fin 3 → Nat :=
  let c0_i32_53 : BitVec 32 := 0#32
  let c0_i32_54 : BitVec 32 := 0#32
  ![v98.toNat, 0, 0]
def k0_off9 (v98 : BitVec 32) : Fin 3 → Nat :=
  let c1024_i32_58 : BitVec 32 := 1024#32
  let c0_i32_59 : BitVec 32 := 0#32
  ![v98.toNat, 1024, 0]

def k0_chk1 (i : grid0.Coords) (v98 : BitVec 32) : Prop :=
  (∀ (k0_h3 : k0_cond3 i = 1#1), ∀ a, (k0_off7 v98) a + S1x512x2048.size a ≤ S10x512x2048.size a) ∧
  (∀ (k0_h3 : k0_cond3 i = 1#1), ∀ a, (k0_off8 v98) a + S1x1024x512.size a ≤ S10x2048x512.size a) ∧
  (∀ (k0_h3 : k0_cond3 i = 1#1), ∀ a, (k0_off9 v98) a + S1x1024x512.size a ≤ S10x2048x512.size a)
theorem k0_off7_inb : ∀ (i : grid0.Coords) (v98 : BitVec 32) (k0_hw1 : k0_chk1 i v98), ∀ (k0_h3 : k0_cond3 i = 1#1), ∀ a, (k0_off7 v98) a + S1x512x2048.size a ≤ S10x512x2048.size a := fun i v98 k0_hw1 k0_h3 => k0_hw1.1 k0_h3
theorem k0_off8_inb : ∀ (i : grid0.Coords) (v98 : BitVec 32) (k0_hw1 : k0_chk1 i v98), ∀ (k0_h3 : k0_cond3 i = 1#1), ∀ a, (k0_off8 v98) a + S1x1024x512.size a ≤ S10x2048x512.size a := fun i v98 k0_hw1 k0_h3 => k0_hw1.2.1 k0_h3
theorem k0_off9_inb : ∀ (i : grid0.Coords) (v98 : BitVec 32) (k0_hw1 : k0_chk1 i v98), ∀ (k0_h3 : k0_cond3 i = 1#1), ∀ a, (k0_off9 v98) a + S1x1024x512.size a ≤ S10x2048x512.size a := fun i v98 k0_hw1 k0_h3 => k0_hw1.2.2 k0_h3

def k0_cond6 (i : grid0.Coords) : BitVec 1 :=
  let arg1 : BitVec 32 := BitVec.ofNat 32 (i 1).val
  let c1_i32_6 : BitVec 32 := 1#32
  let v13 : BitVec 1 := Scalar.cmpi .eq arg1 c1_i32_6
  let v14 : BitVec 32 := Scalar.extui v13
  let c0_i32_7 : BitVec 32 := 0#32
  let v15 : BitVec 1 := Scalar.cmpi .ne v14 c0_i32_7
  v15

def k0_off10 (i : grid0.Coords) : Fin 1 → Nat :=
  let arg0 : BitVec 32 := BitVec.ofNat 32 (i 0).val
  let v19 : Index := Scalar.indexCast arg0
  ![v19.toNat]
def k0_off11 (i : grid0.Coords) : Fin 2 → Nat :=
  let arg0 : BitVec 32 := BitVec.ofNat 32 (i 0).val
  let c2048_i32 : BitVec 32 := 2048#32
  let v23 : BitVec 32 := Scalar.muli arg0 c2048_i32
  let v24 : Index := Scalar.indexCast v23
  let c0_11 : Index := 0#32
  ![v24.toNat, 0]
def k0_off12 (v20 : BitVec 32) : Fin 3 → Nat :=
  let c0_i32_14 : BitVec 32 := 0#32
  let c0_i32_15 : BitVec 32 := 0#32
  ![v20.toNat, 0, 0]

def k0_off13 (i : grid0.Coords) : Fin 2 → Nat :=
  let arg0 : BitVec 32 := BitVec.ofNat 32 (i 0).val
  let c2048_i32_18 : BitVec 32 := 2048#32
  let v38 : BitVec 32 := Scalar.muli arg0 c2048_i32_18
  let v39 : Index := Scalar.indexCast v38
  let c0_19 : Index := 0#32
  ![v39.toNat, 0]
def k0_off14 (v20 : BitVec 32) : Fin 2 → Nat :=
  let v42 : Index := Scalar.indexCast v20
  let c0_20 : Index := 0#32
  ![v42.toNat, 0]
def k0_off15 (v20 : BitVec 32) : Fin 2 → Nat :=
  let v45 : Index := Scalar.indexCast v20
  let c0_21 : Index := 0#32
  ![v45.toNat, 0]

def k0_chk2 (i : grid0.Coords) (v20 : BitVec 32) : Prop :=
  (∀ (k0_h6 : k0_cond6 i = 1#1), ∀ a, (k0_off12 v20) a + S1x512x2048.size a ≤ S10x512x2048.size a) ∧
  (∀ (k0_h6 : k0_cond6 i = 1#1), ∀ a, (k0_off14 v20) a + S1x512.size a ≤ S10x512.size a) ∧
  (∀ (k0_h6 : k0_cond6 i = 1#1), ∀ a, (k0_off15 v20) a + S1x2048.size a ≤ S10x2048.size a)
theorem k0_off12_inb : ∀ (i : grid0.Coords) (v20 : BitVec 32) (k0_hw2 : k0_chk2 i v20), ∀ (k0_h6 : k0_cond6 i = 1#1), ∀ a, (k0_off12 v20) a + S1x512x2048.size a ≤ S10x512x2048.size a := fun i v20 k0_hw2 k0_h6 => k0_hw2.1 k0_h6
theorem k0_off14_inb : ∀ (i : grid0.Coords) (v20 : BitVec 32) (k0_hw2 : k0_chk2 i v20), ∀ (k0_h6 : k0_cond6 i = 1#1), ∀ a, (k0_off14 v20) a + S1x512.size a ≤ S10x512.size a := fun i v20 k0_hw2 k0_h6 => k0_hw2.2.1 k0_h6
theorem k0_off15_inb : ∀ (i : grid0.Coords) (v20 : BitVec 32) (k0_hw2 : k0_chk2 i v20), ∀ (k0_h6 : k0_cond6 i = 1#1), ∀ a, (k0_off15 v20) a + S1x2048.size a ≤ S10x2048.size a := fun i v20 k0_hw2 k0_h6 => k0_hw2.2.2 k0_h6

def k0_cond7 (i : grid0.Coords) : BitVec 1 :=
  let arg1 : BitVec 32 := BitVec.ofNat 32 (i 1).val
  let c2_i32 : BitVec 32 := 2#32
  let v16 : BitVec 1 := Scalar.cmpi .sge arg1 c2_i32
  let v17 : BitVec 32 := Scalar.extui v16
  let c0_i32_8 : BitVec 32 := 0#32
  let v18 : BitVec 1 := Scalar.cmpi .ne v17 c0_i32_8
  v18

def k0_off16 (i : grid0.Coords) : Fin 1 → Nat :=
  let arg0 : BitVec 32 := BitVec.ofNat 32 (i 0).val
  let v19 : Index := Scalar.indexCast arg0
  ![v19.toNat]
def k0_off17 (i : grid0.Coords) : Fin 1 → Nat :=
  let arg1 : BitVec 32 := BitVec.ofNat 32 (i 1).val
  let c2_i32_9 : BitVec 32 := 2#32
  let v21 : BitVec 32 := Scalar.subi arg1 c2_i32_9
  ![v21.toNat]
def k0_off18 (i : grid0.Coords) : Fin 2 → Nat :=
  let arg1 : BitVec 32 := BitVec.ofNat 32 (i 1).val
  let c2_i32_9 : BitVec 32 := 2#32
  let v21 : BitVec 32 := Scalar.subi arg1 c2_i32_9
  let c1024_i32_10 : BitVec 32 := 1024#32
  let v23 : BitVec 32 := Scalar.muli v21 c1024_i32_10
  let c0_i32_11 : BitVec 32 := 0#32
  ![v23.toNat, 0]
def k0_off19 (i : grid0.Coords) (v20 : BitVec 32) : Fin 3 → Nat :=
  let arg1 : BitVec 32 := BitVec.ofNat 32 (i 1).val
  let c2_i32_9 : BitVec 32 := 2#32
  let v21 : BitVec 32 := Scalar.subi arg1 c2_i32_9
  let c1024_i32 : BitVec 32 := 1024#32
  let v22 : BitVec 32 := Scalar.muli v21 c1024_i32
  let c0_i32_12 : BitVec 32 := 0#32
  ![v20.toNat, v22.toNat, 0]

def k0_chk3 (i : grid0.Coords) (v20 : BitVec 32) : Prop :=
  (∀ (k0_h7 : k0_cond7 i = 1#1), ∀ a, (k0_off19 i v20) a + S1x1024x512.size a ≤ S10x2048x512.size a)
theorem k0_off19_inb : ∀ (i : grid0.Coords) (v20 : BitVec 32) (k0_hw3 : k0_chk3 i v20), ∀ (k0_h7 : k0_cond7 i = 1#1), ∀ a, (k0_off19 i v20) a + S1x1024x512.size a ≤ S10x2048x512.size a := fun i v20 k0_hw3 k0_h7 => k0_hw3 k0_h7

def k0_off20 (i : grid0.Coords) : Fin 2 → Nat :=
  let arg1 : BitVec 32 := BitVec.ofNat 32 (i 1).val
  let c2_i32_9 : BitVec 32 := 2#32
  let v21 : BitVec 32 := Scalar.subi arg1 c2_i32_9
  let c1024_i32_13 : BitVec 32 := 1024#32
  let v29 : BitVec 32 := Scalar.muli v21 c1024_i32_13
  let v30 : Index := Scalar.indexCast v29
  let c0 : Index := 0#32
  ![v30.toNat, 0]
def k0_off21 (i : grid0.Coords) : Fin 2 → Nat :=
  let arg1 : BitVec 32 := BitVec.ofNat 32 (i 1).val
  let c2_i32_9 : BitVec 32 := 2#32
  let v21 : BitVec 32 := Scalar.subi arg1 c2_i32_9
  let c1024_i32_16 : BitVec 32 := 1024#32
  let v34 : BitVec 32 := Scalar.muli v21 c1024_i32_16
  let v35 : Index := Scalar.indexCast v34
  let c0_17 : Index := 0#32
  ![v35.toNat, 0]
def k0_cond5 (i : grid0.Coords) : BitVec 1 :=
  let arg0 : BitVec 32 := BitVec.ofNat 32 (i 0).val
  let c1_i32_62 : BitVec 32 := 1#32
  let v116 : BitVec 1 := Scalar.cmpi .eq arg0 c1_i32_62
  let v117 : BitVec 32 := Scalar.extui v116
  let c0_i32_63 : BitVec 32 := 0#32
  let v118 : BitVec 1 := Scalar.cmpi .ne v117 c0_i32_63
  v118

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S10x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S10x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S2x2048x768 : Shape := ⟨3, ![2, 2048, 768]⟩
abbrev S10x768 : Shape := ⟨2, ![10, 768]⟩
abbrev S10x512x2048 : Shape := ⟨3, ![10, 512, 2048]⟩
abbrev S10x512 : Shape := ⟨2, ![10, 512]⟩
abbrev S10x2048x512 : Shape := ⟨3, ![10, 2048, 512]⟩
abbrev S10x2048 : Shape := ⟨2, ![10, 2048]⟩
abbrev S768x768 : Shape := ⟨2, ![768, 768]⟩
abbrev S768 : Shape := ⟨1, ![768]⟩
abbrev S_ : Shape := ⟨0, ![]⟩
abbrev S2x768 : Shape := ⟨2, ![2, 768]⟩
abbrev S768x10 : Shape := ⟨2, ![768, 10]⟩
abbrev S2x10 : Shape := ⟨2, ![2, 10]⟩
abbrev S2 : Shape := ⟨1, ![2]⟩
abbrev S2x1 : Shape := ⟨2, ![2, 1]⟩
abbrev S2x768x2048 : Shape := ⟨3, ![2, 768, 2048]⟩
abbrev S2x768x1 : Shape := ⟨3, ![2, 768, 1]⟩
abbrev S2x768x10x512 : Shape := ⟨4, ![2, 768, 10, 512]⟩
abbrev S10x1x1x512 : Shape := ⟨4, ![10, 1, 1, 512]⟩
abbrev S10x2x768x512 : Shape := ⟨4, ![10, 2, 768, 512]⟩
abbrev S10x2x768x2048 : Shape := ⟨4, ![10, 2, 768, 2048]⟩
abbrev S10x1x1x2048 : Shape := ⟨4, ![10, 1, 1, 2048]⟩
abbrev S10x2x2048x768 : Shape := ⟨4, ![10, 2, 2048, 768]⟩
abbrev S1x2x1 : Shape := ⟨3, ![1, 2, 1]⟩
abbrev S10 : Shape := ⟨1, ![10]⟩
abbrev S10x1x1 : Shape := ⟨3, ![10, 1, 1]⟩
abbrev S10x2x1 : Shape := ⟨3, ![10, 2, 1]⟩
abbrev S10x2 : Shape := ⟨2, ![10, 2]⟩
abbrev S10x2x1x1 : Shape := ⟨4, ![10, 2, 1, 1]⟩
abbrev S1x1x768 : Shape := ⟨3, ![1, 1, 768]⟩
abbrev S1x10 : Shape := ⟨2, ![1, 10]⟩

abbrev nBuf : Space → Nat
  | .hbm => 132
  | .vmem => 0
  | .smem => 0
  | _ => 0

abbrev hbmTy0_0 (i : Nat) : BufTy := match i % 128 with
  | 0 => ⟨S2x2048x768, .f32⟩
  | 1 => ⟨S10x768, .f32⟩
  | 2 => ⟨S10x512x2048, .f32⟩
  | 3 => ⟨S10x512, .f32⟩
  | 4 => ⟨S10x2048x512, .f32⟩
  | 5 => ⟨S10x2048, .f32⟩
  | 6 => ⟨S768x768, .f32⟩
  | 7 => ⟨S768, .f32⟩
  | 8 => ⟨S_, .f32⟩
  | 9 => ⟨S2x768, .f32⟩
  | 10 => ⟨S_, .f32⟩
  | 11 => ⟨S2x768, .f32⟩
  | 12 => ⟨S2x768, .f32⟩
  | 13 => ⟨S768x10, .f32⟩
  | 14 => ⟨S2x10, .f32⟩
  | 15 => ⟨S_, .f32⟩
  | 16 => ⟨S2, .f32⟩
  | 17 => ⟨S_, .f32⟩
  | 18 => ⟨S2, .f32⟩
  | 19 => ⟨S2, .f32⟩
  | 20 => ⟨S2x1, .f32⟩
  | 21 => ⟨S2x10, .f32⟩
  | 22 => ⟨S2x10, .f32⟩
  | 23 => ⟨S2x10, .f32⟩
  | 24 => ⟨S_, .f32⟩
  | 25 => ⟨S2, .f32⟩
  | 26 => ⟨S2x1, .f32⟩
  | 27 => ⟨S2x10, .f32⟩
  | 28 => ⟨S2x10, .f32⟩
  | 29 => ⟨S2x1, .f32⟩
  | 30 => ⟨S2x1, .i32⟩
  | 31 => ⟨S_, .f32⟩
  | 32 => ⟨S2, .f32⟩
  | 33 => ⟨S2x1, .f32⟩
  | 34 => ⟨S2x1, .f32⟩
  | 35 => ⟨S2x768x2048, .f32⟩
  | 36 => ⟨S_, .f32⟩
  | 37 => ⟨S2x768, .f32⟩
  | 38 => ⟨S2x768x1, .f32⟩
  | 39 => ⟨S_, .f32⟩
  | 40 => ⟨S2x768x1, .f32⟩
  | 41 => ⟨S2x768x1, .f32⟩
  | 42 => ⟨S2x768x2048, .f32⟩
  | 43 => ⟨S2x768x2048, .f32⟩
  | 44 => ⟨S2x768x2048, .f32⟩
  | 45 => ⟨S_, .f32⟩
  | 46 => ⟨S2x768, .f32⟩
  | 47 => ⟨S2x768x1, .f32⟩
  | 48 => ⟨S_, .f32⟩
  | 49 => ⟨S2x768x1, .f32⟩
  | 50 => ⟨S2x768x1, .f32⟩
  | 51 => ⟨S2x768x2048, .f32⟩
  | 52 => ⟨S2x768x2048, .f32⟩
  | 53 => ⟨S_, .f32⟩
  | 54 => ⟨S2x768x1, .f32⟩
  | 55 => ⟨S2x768x1, .f32⟩
  | 56 => ⟨S2x768x1, .f32⟩
  | 57 => ⟨S2x768x2048, .f32⟩
  | 58 => ⟨S2x768x2048, .f32⟩
  | 59 => ⟨S10x2048x512, .f32⟩
  | 60 => ⟨S2x768x10x512, .f32⟩
  | 61 => ⟨S10x1x1x512, .f32⟩
  | 62 => ⟨S10x2x768x512, .f32⟩
  | 63 => ⟨S10x2x768x512, .f32⟩
  | 64 => ⟨S10x2x768x512, .f32⟩
  | 65 => ⟨S10x2x768x512, .f32⟩
  | 66 => ⟨S10x2x768x512, .f32⟩
  | 67 => ⟨S_, .f32⟩
  | 68 => ⟨S10x2x768x512, .f32⟩
  | 69 => ⟨S10x2x768x512, .f32⟩
  | 70 => ⟨S10x2x768x512, .f32⟩
  | 71 => ⟨S_, .f32⟩
  | 72 => ⟨S10x2x768x512, .f32⟩
  | 73 => ⟨S10x2x768x512, .f32⟩
  | 74 => ⟨S10x2x768x512, .f32⟩
  | 75 => ⟨S_, .f32⟩
  | 76 => ⟨S10x2x768x512, .f32⟩
  | 77 => ⟨S10x2x768x512, .f32⟩
  | 78 => ⟨S_, .f32⟩
  | 79 => ⟨S10x2x768x512, .f32⟩
  | 80 => ⟨S10x2x768x512, .f32⟩
  | 81 => ⟨S10x2x768x512, .f32⟩
  | 82 => ⟨S10x512x2048, .f32⟩
  | 83 => ⟨S10x2x768x2048, .f32⟩
  | 84 => ⟨S10x1x1x2048, .f32⟩
  | 85 => ⟨S10x2x768x2048, .f32⟩
  | 86 => ⟨S10x2x768x2048, .f32⟩
  | 87 => ⟨S10x2x2048x768, .f32⟩
  | 88 => ⟨S1x2x1, .i32⟩
  | 89 => ⟨S10, .i32⟩
  | 90 => ⟨S10x1x1, .i32⟩
  | 91 => ⟨S10x2x1, .i32⟩
  | 92 => ⟨S10x2x1, .i32⟩
  | 93 => ⟨S10x2x1, .i1⟩
  | 94 => ⟨S10x2x1, .f32⟩
  | 95 => ⟨S1x2x1, .f32⟩
  | 96 => ⟨S10x2x1, .f32⟩
  | 97 => ⟨S10x2x1, .f32⟩
  | 98 => ⟨S_, .f32⟩
  | 99 => ⟨S10x2, .f32⟩
  | 100 => ⟨S10x2x1x1, .f32⟩
  | 101 => ⟨S10x2x2048x768, .f32⟩
  | 102 => ⟨S10x2x2048x768, .f32⟩
  | 103 => ⟨S_, .f32⟩
  | 104 => ⟨S2x2048x768, .f32⟩
  | 105 => ⟨S768x768, .f32⟩
  | 106 => ⟨S2x2048x768, .f32⟩
  | 107 => ⟨S1x1x768, .f32⟩
  | 108 => ⟨S2x2048x768, .f32⟩
  | 109 => ⟨S2x2048x768, .f32⟩
  | 110 => ⟨S2, .i32⟩
  | 111 => ⟨S2x1, .i32⟩
  | 112 => ⟨S1x10, .i32⟩
  | 113 => ⟨S2x10, .i32⟩
  | 114 => ⟨S2x10, .i32⟩
  | 115 => ⟨S2x10, .i1⟩
  | 116 => ⟨S2x10, .f32⟩
  | 117 => ⟨S_, .f32⟩
  | 118 => ⟨S10, .f32⟩
  | 119 => ⟨S_, .f32⟩
  | 120 => ⟨S10, .f32⟩
  | 121 => ⟨S10, .f32⟩
  | 122 => ⟨S_, .f32⟩
  | 123 => ⟨S10, .f32⟩
  | 124 => ⟨S_, .f32⟩
  | 125 => ⟨S10, .f32⟩
  | 126 => ⟨S10, .f32⟩
  | 127 => ⟨S10, .f32⟩
  | _ => ⟨S2x2048x768, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_values : Ref sig .tc := ⟨.hbm, 29, rfl⟩
abbrev main_indices : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_cst_13 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_call0_v0 : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_cst_17 : Ref sig .tc := ⟨.hbm, 119, rfl⟩
abbrev main_v86 : Ref sig .tc := ⟨.hbm, 120, rfl⟩
abbrev main_v87 : Ref sig .tc := ⟨.hbm, 121, rfl⟩
abbrev main_cst_18 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_20 : Ref sig .tc := ⟨.hbm, 128, rfl⟩
abbrev main_v92 : Ref sig .tc := ⟨.hbm, 129, rfl⟩
abbrev main_cst_21 : Ref sig .tc := ⟨.hbm, 130, rfl⟩
abbrev main_v93 : Ref sig .tc := ⟨.hbm, 131, rfl⟩

abbrev nD : Nat := 1
abbrev τ : Topo := Topo.v7x

variable {F : FTy → Type} [FloatOps F]
-- ==== Proof.Base.lean ====
module

public import proofs.«01_k».proof.Proof.Gen.Guarded.Launch
public import proofs.«01_k».proof.Proof.Gen.Guarded.Skeleton
public import proofs.«01_k».proof.Proof.Gen.Guarded.Points
public import proofs.«01_k».proof.Proof.Gen.Guarded.Frame
public import Idealize.ShloMosaic.Lib.Pipeline.FrameSuffixV
public import Idealize.ShloMosaic.Lib.Pipeline.FrameBody
public import Idealize.ShloMosaic.Lib.Ring
public import Idealize.ShloMosaic.Lib.Tactic
public import Idealize.ShloMosaic.Lib.WordCmp
public import Idealize.ShloMosaic.Lib.PointwiseCore
public import Idealize.ShloMosaic.PureOps.Reduce
public import Idealize.ShloMosaic.Lib.WordArith
public import Idealize.ShloMosaic.Lib.ValueLayout

@[expose] public section

set_option maxRecDepth 16384

noncomputable section

namespace Cert.Guarded.Hand

open Cert.Guarded Cert.Guarded.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The arguments as vectors, and what the kernel computes from them -/

/-- The eight argument arrays. -/
structure In (F : FTy → Type) where
  x : Vec F S2x2048x768 .f32
  rw : Vec F S10x768 .f32
  w1 : Vec F S10x512x2048 .f32
  b1 : Vec F S10x512 .f32
  w2 : Vec F S10x2048x512 .f32
  b2 : Vec F S10x2048 .f32
  ow : Vec F S768x768 .f32
  ob : Vec F S768 .f32

variable (A : In F)

/-- Half `j` of the rows of `x[b]`. -/
def xc (b j : Fin 2) : Vec F S1024x768 .f32 := fun i =>
  A.x (ix3 b ⟨1024 * j.val + (i 0).val, by have h : (i 0).val < 1024 := (i 0).isLt; omega⟩ (i 1))
/-- All rows of `x[b]`. -/
def xf (b : Fin 2) : Vec F S2048x768 .f32 := fun i => A.x (ix3 b (i 0) (i 1))
/-- The mean over the rows. -/
def mu (b : Fin 2) : FVec F S1x768 .f32 := k0_pay9 (k0_pay6 (xc A b 0)) (xc A b 1)
/-- The reciprocal of the standard deviation over the rows. -/
def rs (b : Fin 2) : FVec F S1x768 .f32 := k0_pay10 (k0_pay6 (xc A b 0)) (k0_pay7 (xc A b 0)) (xc A b 1)
/-- The router's probabilities. -/
def pr (b : Fin 2) : FVec F S1x10 .f32 := k0_pay11 (k0_pay6 (xc A b 0)) (xc A b 1) A.rw
/-- Their maximum, on every lane. -/
def pm (b : Fin 2) : FVec F S1x10 .f32 := k0_pay12 (k0_pay6 (xc A b 0)) (xc A b 1) A.rw
/-- The lanes' own numbers. -/
def lanes : IVec S1x10 32 := iota .tc S1x10 32 [1] iota_S1x10_d1_w32
/-- The chosen expert, as a word. -/
def ew (b : Fin 2) : BitVec 32 := extractAt ![0, 0] (k0_pay1 (pr A b) lanes (pm A b)) inpos_S1x1_p0_0
/-- A word below ten as a position. -/
def fin10 (w : BitVec 32) : Fin 10 := Fin.ofNat 10 w.toNat
theorem fin10_val {w : BitVec 32} (h : w.toNat < 10) : (fin10 w).val = w.toNat := Nat.mod_eq_of_lt h
/-- The chosen expert. -/
def ex (b : Fin 2) : Fin 10 := fin10 (ew A b)
def w1e (e : Fin 10) : Vec F S512x2048 .f32 := fun i => A.w1 (ix3 e (i 0) (i 1))
def b1e (e : Fin 10) : Vec F S1x512 .f32 := fun i => A.b1 (ix2 e (i 1))
def b2e (e : Fin 10) : Vec F S1x2048 .f32 := fun i => A.b2 (ix2 e (i 1))
def w2e (e : Fin 10) (j : Fin 2) : Vec F S1024x512 .f32 := fun i =>
  A.w2 (ix3 e ⟨1024 * j.val + (i 0).val, by have h : (i 0).val < 1024 := (i 0).isLt; omega⟩ (i 1))
/-- The normalised rows. -/
def xn (b : Fin 2) : FVec F S2048x768 .f32 := k0_pay13 (mu A b) (rs A b) (xf A b)
/-- The hidden layer after its activation. -/
def hh (b : Fin 2) : FVec F S512x768 .f32 :=
  k0_pay4 (k0_pay15 (w1e A (ex A b)) (xn A b) (b1e A (ex A b))) (k0_pay16 (w1e A (ex A b)) (xn A b) (b1e A (ex A b)))
    (Scalar.ofBits .f32 0x3D372713#32)
/-- The second layer's bias as a column. -/
def fb (b : Fin 2) : FVec F S2048x1 .f32 := k0_pay14 (b2e A (ex A b))
def fbc (b j : Fin 2) : Vec F S1024x1 .f32 := fun i =>
  fb A b (ix2 ⟨1024 * j.val + (i 0).val, by have h : (i 0).val < 1024 := (i 0).isLt; omega⟩ (i 1))
/-- One block of the first result. -/
def ob (b j : Fin 2) : FVec F S1x1024x768 .f32 := k0_pay5 (w2e A (ex A b) j) (hh A b) (fbc A b j) A.ow A.ob
/-- The second result. -/
def ax : FVec F S1x1 .f32 := k0_pay3 (pr A 1) lanes (pm A 1) (pr A 0) (ew A 0)

/-! ## The memrefs -/

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (q : PosShare TreeShare) (f : Bf (F := F) c M) : sProp 𝕄 :=
  M.view.loc (c : Thread nD τ) ↦{q} f
abbrev po (c : Dev nD) {sp : Space} {S : Shape} {e : EltTy} (M : Memref sig .tc sp S e) (q : PosShare TreeShare) (f : Bf (F := F) c M) : sProp 𝕄 :=
  M.view.loc (c : Thread nD τ) ↦[M.view.set]{q} f

def mX : Memref sig .tc .hbm S2x2048x768 .f32 := Memref.whole main_arg0
def mF1 : Memref sig .tc .hbm S10x512x2048 .f32 := Memref.whole main_arg2
def mF2 : Memref sig .tc .hbm S10x2048x512 .f32 := Memref.whole main_arg4
def sH : Memref sig .tc .vmem S512x768 .f32 := Memref.whole cc0_scratch0
def sX : Memref sig .tc .vmem S4096x768 .f32 := Memref.whole cc0_scratch1
def sF1 : Memref sig .tc .vmem S512x2048 .f32 := Memref.whole cc0_scratch2
def sF2 : Memref sig .tc .vmem S2048x512 .f32 := Memref.whole cc0_scratch3
def sP : Memref sig .tc .vmem S1x10 .f32 := Memref.whole cc0_scratch4
def sB : Memref sig .tc .vmem S2048x1 .f32 := Memref.whole cc0_scratch5
def sT : Memref sig .tc .smem S2 .i32 := Memref.whole cc0_scratch6

/-! ## Reading through rectangles, slices and writes -/

section Reads
variable {κ : Kind} {sp : Space} {S S' : Shape} {e : EltTy}

/-- A load at an index, through the unit rectangle. -/
theorem ld_at (v : View sig κ sp S e) (f : v.ty.Contents (Elt F)) {off size : Fin S.rank → ℕ} (inb : ∀ a, off a + size a ≤ S.size a)
    (j : (Rect.unit (s := S) off size inb).shape.Idx) (y : S.Idx) (h : ∀ a, (y a).val = off a + (j a).val) :
    v.readAt (Elt F) (Rect.unit (s := S) off size inb).toLoadRect f j = v.read (Elt F) f y := by
  rw [View.readAt_apply]
  exact congrArg _ (funext fun a => Fin.ext (by rw [h a]; simp [Rect.toLoadRect, Rect.unit, LoadRect.idx]))

/-- Reading back a write, inside its rectangle. -/
theorem wr_in (v : View sig κ sp S e) (f : v.ty.Contents (Elt F)) {off size : Fin S.rank → ℕ} (inb : ∀ a, off a + size a ≤ S.size a)
    (w : (Rect.unit (s := S) off size inb).shape.Idx → Elt F e) (L : List (View.Piece (Elt F) S e))
    (j : (Rect.unit (s := S) off size inb).shape.Idx) (y : S.Idx) (h : ∀ a, (y a).val = off a + (j a).val) :
    v.read (Elt F) (v.writes (Elt F) f (⟨Rect.unit (s := S) off size inb, w⟩ :: L)) y = w j := by
  have hy : y = (Rect.unit (s := S) off size inb).emb j := funext fun a => Fin.ext (by rw [h a]; simp [Rect.emb, Rect.unit])
  rw [hy, View.read_writes_cons_emb]

/-- Reading back a write, outside its rectangle. -/
theorem wr_out (v : View sig κ sp S e) (f : v.ty.Contents (Elt F)) {off size : Fin S.rank → ℕ} (inb : ∀ a, off a + size a ≤ S.size a)
    (w : (Rect.unit (s := S) off size inb).shape.Idx → Elt F e) (L : List (View.Piece (Elt F) S e))
    (y : S.Idx) (a : Fin S.rank) (h : (y a).val < off a ∨ off a + size a ≤ (y a).val) :
    v.read (Elt F) (v.writes (Elt F) f (⟨Rect.unit (s := S) off size inb, w⟩ :: L)) y = v.read (Elt F) (v.writes (Elt F) f L) y := by
  have hy : y ∉ (Rect.unit (s := S) off size inb).set := fun hm => by
    have := (Rect.mem_set_unit.mp hm) a
    omega
  have hy' : y ∉ Finset.univ.map (Rect.unit (s := S) off size inb).emb := by rwa [Rect.map_emb_univ]
  rw [View.writes_cons, View.read_slice_write_of_not_mem _ _ _ _ hy']

end Reads

/-- One slab of a rank-3 array read through a transfer's squeezed source. -/
theorem sq_at {κ : Kind} {sp : Space} {e : EltTy} {n a b p q : ℕ} (M : Memref sig κ sp ⟨3, ![n, a, b]⟩ e) (f : M.view.ty.Contents (Elt F))
    {off : Fin 3 → ℕ} (inb : ∀ k, off k + (![1, p, q] : Fin 3 → ℕ) k ≤ (⟨3, ![n, a, b]⟩ : Shape).size k) (hr)
    (hq : (Rect.unit (s := ⟨3, ![n, a, b]⟩) off ![1, p, q] inb).shape.Squeezes ⟨2, ![p, q]⟩) (hc : (⟨3, ![1, p, q]⟩ : Shape).ShapeCasts ⟨2, ![p, q]⟩)
    (i : Fin p) (j : Fin q) (y : (⟨3, ![n, a, b]⟩ : Shape).Idx)
    (h0 : (y 0).val = off 0) (h1 : (y 1).val = off 1 + i.val) (h2 : (y 2).val = off 2 + j.val) :
    ((M.slice (Rect.unit (s := ⟨3, ![n, a, b]⟩) off ![1, p, q] inb) hr).squeeze ⟨2, ![p, q]⟩ hq).view.read (Elt F) f (ix2 i j) = M.view.read (Elt F) f y := by
  rw [Memref.read_squeeze_slice (hc := hc)]
  refine (ValueIdx.shapeCast_1ab_ab_apply _ _ i j).trans (ld_at M.view f inb _ y fun k => ?_)
  fin_cases k
  · exact h0
  · exact h1
  · exact h2

/-- A part of `x` read through the transfer's source. -/
theorem read_x (c : Dev nD) (f : Bf (F := F) c mX) (hA : mX.view.read (Elt F) f = A.x) (b j : Fin 2) {off : Fin 3 → ℕ}
    (inb : ∀ a, off a + S1x1024x768.size a ≤ S2x2048x768.size a) (hr) (hq) (h : off = ![b.val, 1024 * j.val, 0]) (i0 : Fin 1024) (i1 : Fin 768) :
    ((mX.slice (Rect.unit (s := S2x2048x768) off S1x1024x768.size inb) hr).squeeze S1024x768 hq).view.read (Elt F) f (ix2 i0 i1)
      = A.x (ix3 b ⟨1024 * j.val + i0.val, by omega⟩ i1) := by
  subst h
  rw [← hA]
  exact sq_at mX f inb hr hq (by decide) i0 i1 (ix3 b ⟨1024 * j.val + i0.val, by omega⟩ i1) rfl rfl (Nat.zero_add _).symm

/-- The signed minimum of words below ten, from the largest signed word, is below ten. -/
theorem fold_minsi_lt {ι : Type} [DecidableEq ι] (s : Finset ι) (g : ι → BitVec 32) (hg : ∀ k, (g k).toNat < 10) :
    (s.fold IKind.minsi.op 2147483647#32 g).toNat < 2 ^ 31 ∧ (s.Nonempty → (s.fold IKind.minsi.op 2147483647#32 g).toNat < 10) := by
  induction s using Finset.induction_on with
  | empty => exact ⟨by rw [Finset.fold_empty]; decide, fun h => absurd h Finset.not_nonempty_empty⟩
  | insert a s ha ih =>
    have hga := hg a
    have hm := WordArith.toNat_minsi_of_lt (g a) (s.fold IKind.minsi.op 2147483647#32 g) (by omega) ih.1
    rw [Finset.fold_insert ha]
    show (IntOp.minsi _ _).toNat < _ ∧ (_ → (IntOp.minsi _ _).toNat < _)
    rw [hm]
    exact ⟨by omega, fun _ => by omega⟩

/-- Whatever the probabilities are, the chosen word is below ten. -/
theorem sel_lt (v88 v92 : FVec F S1x10 .f32) :
    (extractAt ![0, 0] (k0_pay1 v88 lanes v92) inpos_S1x1_p0_0).toNat < 10 := by
  unfold k0_pay1 lanes
  pointwise
  refine (congrArg (fun z : BitVec 32 => z.toNat < 10) (multiReductionI_eq_fold .minsi _ _ reduces_S1x10_S1 rfl (ix1 0))).mpr ?_
  refine (fold_minsi_lt _ _ fun k => ?_).2 ⟨ix2 0 0, ?_⟩
  · idx_vars k
    pointwise
    unfold Scalar.select
    split
    · rw [BitVec.toNat_ofNat]; omega
    · decide
  · rw [Finset.mem_filter]
    refine ⟨Finset.mem_univ _, funext fun a => Fin.ext ?_⟩
    have h : ∀ z : Fin 1, z.val = 0 := fun z => by omega
    fin_cases a
    exact (h (reduces_S1x10_S1.drop (ix2 0 0) 0)).trans (h (ix1 (0 : Fin 1) 0)).symm

end Cert.Guarded.Hand

end
-- ==== Proof.State.lean ====
module

public import proofs.«01_k».proof.Proof.Base
public import proofs.«01_k».proof.Proof.Gen.Guarded.Launch
public import proofs.«01_k».proof.Proof.Gen.Guarded.Skeleton
public import proofs.«01_k».proof.Proof.Gen.Guarded.Points
public import proofs.«01_k».proof.Proof.Gen.Guarded.Frame
public import Idealize.ShloMosaic.Lib.Pipeline.FrameSuffixV
public import Idealize.ShloMosaic.Lib.Pipeline.FrameBody
public import Idealize.ShloMosaic.Lib.Ring
public import Idealize.ShloMosaic.Lib.Tactic
public import Idealize.ShloMosaic.Lib.WordCmp
public import Idealize.ShloMosaic.Lib.PointwiseCore

@[expose] public section

set_option maxRecDepth 16384

noncomputable section

namespace Cert.Guarded.Hand

open Cert.Guarded Cert.Guarded.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (A : In F)

/-! ## What the scratch holds -/

/-- Half `h` of the rows of `x[b]` stands in the scratch. -/
def halfX (c : Dev nD) (b h : Fin 2) (g : Bf (F := F) c sX) : Prop := ∀ (j : Fin 1024) (k : Fin 768),
  sX.view.read (Elt F) g (ix2 ⟨2048 * b.val + 1024 * h.val + j.val, by omega⟩ k) = A.x (ix3 b ⟨1024 * h.val + j.val, by omega⟩ k)
/-- Half `h` of the second weight of expert `e` stands in the scratch. -/
def halfF2 (c : Dev nD) (e : Fin 10) (h : Fin 2) (g : Bf (F := F) c sF2) : Prop := ∀ (j : Fin 1024) (k : Fin 512),
  sF2.view.read (Elt F) g (ix2 ⟨1024 * h.val + j.val, by omega⟩ k) = A.w2 (ix3 e ⟨1024 * h.val + j.val, by omega⟩ k)
/-- The statistics stand in the first two rows of the scratch. -/
def statH (c : Dev nD) (b : Fin 2) (g : Bf (F := F) c sH) : Prop := ∀ k : Fin 768,
  sH.view.read (Elt F) g (ix2 0 k) = mu A b (ix2 0 k) ∧ sH.view.read (Elt F) g (ix2 1 k) = rs A b (ix2 0 k)
/-- The chosen expert's word stands in its place. -/
def selT (c : Dev nD) (b : Fin 2) (g : Bf (F := F) c sT) : Prop := sT.view.read (Elt F) g (ix1 b) = ew A b

abbrev sF2a := sF2.slice (Rect.unit (s := S2048x512) ![0, 0] S1024x512.size inb_S2048x512_S1024x512_0_0) (fun _ => rfl)
abbrev sF2b := sF2.slice (Rect.unit (s := S2048x512) ![1024, 0] S1024x512.size inb_S2048x512_S1024x512_1024_0) (fun _ => rfl)
abbrev sXa := sX.slice (Rect.unit (s := S4096x768) ![2048, 0] S1024x768.size (by decide)) (fun _ => rfl)
abbrev sXb := sX.slice (Rect.unit (s := S4096x768) ![3072, 0] S1024x768.size (by decide)) (fun _ => rfl)

abbrev fl (c : Dev nD) (k : DmaSem sig) (n : ℕ) (D : sProp 𝕄) : sProp 𝕄 :=
  Transfers.Flight (countersEmb (U := Pipeline.UD sig nD τ)) (c : Thread nD τ) (.dma k) () n D
abbrev sv (c : Dev nD) (k : DmaSem sig) : sProp 𝕄 := semVal ((c : Thread nD τ), SemLoc.dma k) 0

variable (c : Dev nD) (fX : Bf (F := F) c mX) (fF1 : Bf (F := F) c mF1) (fF2 : Bf (F := F) c mF2)

/-- A scratch buffer with anything in it. -/
def any {sp : Space} {S : Shape} {e : EltTy} (M : Memref sig .tc sp S e) : sProp 𝕄 := iprop(∃ g, pt c M fullShare g)

/-- The input rows are all in HBM, no copy in flight. -/
def heldX : sProp 𝕄 := iprop(pt c mX fullShare.left fX ∗ pt c mX fullShare.right fX ∗ sv c 10 ∗ sv c 11)
def freeX : sProp 𝕄 := iprop(heldX c fX ∗ any c sX)
/-- The rows of `x[b]` have arrived. -/
def hereX (b : Fin 2) : sProp 𝕄 := iprop(heldX c fX ∗ ∃ g, ⌜halfX A c b 0 g ∧ halfX A c b 1 g⌝ ∗ pt c sX fullShare g)
/-- The rows of `x[1]` are on their way. -/
def flyX : sProp 𝕄 := iprop(∃ g s s', ⌜halfX A c 1 0 g ∧ halfX A c 1 1 g⌝
  ∗ fl c 10 98304 iprop((sX.view.loc (c : Thread nD τ) ↦[sXa.view.set]{fullShare} g) ∗ (mX.view.loc (c : Thread nD τ) ↦[s]{fullShare.left} fX))
  ∗ (mX.view.loc (c : Thread nD τ) ↦[Finset.univ \ s]{fullShare.left} fX)
  ∗ fl c 11 98304 iprop((sX.view.loc (c : Thread nD τ) ↦[sXb.view.set]{fullShare} g) ∗ (mX.view.loc (c : Thread nD τ) ↦[s']{fullShare.right} fX))
  ∗ (mX.view.loc (c : Thread nD τ) ↦[Finset.univ \ s']{fullShare.right} fX)
  ∗ (sX.view.loc (c : Thread nD τ) ↦[(Finset.univ \ sXa.view.set) \ sXb.view.set]{fullShare} g))
/-- The first weights are in HBM, no copy in flight. -/
def freeF1 : sProp 𝕄 := iprop(pt c mF1 fullShare fF1 ∗ sv c 12 ∗ any c sF1)
/-- The first weight of expert `e` is on its way. -/
def flyF1 (e : Fin 10) : sProp 𝕄 := iprop(∃ g s, ⌜sF1.view.read (Elt F) g = w1e A e⌝
  ∗ fl c 12 131072 iprop(pt c sF1 fullShare g ∗ (mF1.view.loc (c : Thread nD τ) ↦[s]{fullShare} fF1))
  ∗ (mF1.view.loc (c : Thread nD τ) ↦[Finset.univ \ s]{fullShare} fF1))
/-- The second weights are in HBM, no copy in flight. -/
def freeF2 : sProp 𝕄 := iprop(pt c mF2 fullShare.left fF2 ∗ pt c mF2 fullShare.right fF2 ∗ sv c 13 ∗ sv c 14 ∗ any c sF2)
/-- The second half of the second weight of expert `e` is on its way. -/
def tailF2 (e : Fin 10) (g : Bf (F := F) c sF2) : sProp 𝕄 := iprop(∃ s, ⌜halfF2 A c e 1 g⌝
  ∗ fl c 14 65536 iprop((sF2.view.loc (c : Thread nD τ) ↦[sF2b.view.set]{fullShare} g) ∗ (mF2.view.loc (c : Thread nD τ) ↦[s]{fullShare.right} fF2))
  ∗ (mF2.view.loc (c : Thread nD τ) ↦[Finset.univ \ s]{fullShare.right} fF2))
/-- Both halves are on their way. -/
def flyF2 (e : Fin 10) : sProp 𝕄 := iprop(∃ g s, ⌜halfF2 A c e 0 g⌝
  ∗ fl c 13 65536 iprop((sF2.view.loc (c : Thread nD τ) ↦[sF2a.view.set]{fullShare} g) ∗ (mF2.view.loc (c : Thread nD τ) ↦[s]{fullShare.left} fF2))
  ∗ (mF2.view.loc (c : Thread nD τ) ↦[Finset.univ \ s]{fullShare.left} fF2)
  ∗ tailF2 A c fF2 e g
  ∗ (sF2.view.loc (c : Thread nD τ) ↦[(Finset.univ \ sF2a.view.set) \ sF2b.view.set]{fullShare} g))
/-- The first half has been used, the second is on its way. -/
def midF2 (e : Fin 10) : sProp 𝕄 := iprop(∃ g, pt c mF2 fullShare.left fF2 ∗ sv c 13 ∗ tailF2 A c fF2 e g
  ∗ (sF2.view.loc (c : Thread nD τ) ↦[Finset.univ \ sF2b.view.set]{fullShare} g))

/-- The hidden layer and the second bias are there. -/
def hid (b : Fin 2) : sProp 𝕄 := iprop((∃ g, ⌜sH.view.read (Elt F) g = hh A b⌝ ∗ pt c sH fullShare g)
  ∗ ∃ g, ⌜sB.view.read (Elt F) g = fb A b⌝ ∗ pt c sB fullShare g)
/-- The first example's probabilities and choice are kept. -/
def keptP : sProp 𝕄 := iprop(∃ g, ⌜sP.view.read (Elt F) g = pr A 0⌝ ∗ pt c sP fullShare g)
def keptT (b : Fin 2) : sProp 𝕄 := iprop(∃ g, ⌜selT A c b g⌝ ∗ pt c sT fullShare g)
/-- The first two copy semaphores are used within a point only. -/
def pool : sProp 𝕄 := iprop(sv c 8 ∗ sv c 9)

/-- What stands between the points: after each of the eight. -/
def st : ℕ → sProp 𝕄
  | 0 => iprop(freeX c fX ∗ freeF1 c fF1 ∗ freeF2 c fF2 ∗ any c sH ∗ any c sB ∗ any c sP ∗ any c sT ∗ pool c)
  | 1 => iprop(hereX A c fX 0 ∗ flyF1 A c fF1 (ex A 0) ∗ flyF2 A c fF2 (ex A 0) ∗ (∃ g, ⌜statH A c 0 g⌝ ∗ pt c sH fullShare g) ∗ any c sB ∗ keptP A c ∗ keptT A c 0 ∗ pool c)
  | 2 => iprop(flyX A c fX ∗ freeF1 c fF1 ∗ flyF2 A c fF2 (ex A 0) ∗ hid A c 0 ∗ keptP A c ∗ keptT A c 0 ∗ pool c)
  | 3 => iprop(flyX A c fX ∗ freeF1 c fF1 ∗ midF2 A c fF2 (ex A 0) ∗ hid A c 0 ∗ keptP A c ∗ keptT A c 0 ∗ pool c)
  | 4 => iprop(flyX A c fX ∗ freeF1 c fF1 ∗ freeF2 c fF2 ∗ any c sH ∗ any c sB ∗ keptP A c ∗ keptT A c 0 ∗ pool c)
  | 5 => iprop(hereX A c fX 1 ∗ flyF1 A c fF1 (ex A 1) ∗ flyF2 A c fF2 (ex A 1) ∗ (∃ g, ⌜statH A c 1 g⌝ ∗ pt c sH fullShare g) ∗ any c sB ∗ any c sP ∗ keptT A c 1 ∗ pool c)
  | 6 => iprop(freeX c fX ∗ freeF1 c fF1 ∗ flyF2 A c fF2 (ex A 1) ∗ hid A c 1 ∗ any c sP ∗ keptT A c 1 ∗ pool c)
  | 7 => iprop(freeX c fX ∗ freeF1 c fF1 ∗ midF2 A c fF2 (ex A 1) ∗ hid A c 1 ∗ any c sP ∗ keptT A c 1 ∗ pool c)
  | _ => iprop(freeX c fX ∗ freeF1 c fF1 ∗ freeF2 c fF2 ∗ any c sH ∗ any c sB ∗ any c sP ∗ any c sT ∗ pool c)

/-- A window that holds the vector `v`. -/
def win {sp : Space} {S : Shape} {e : EltTy} (M : Memref sig .tc sp S e) (v : Vec F S e) : sProp 𝕄 :=
  iprop(∃ f, ⌜M.view.read (Elt F) f = v⌝ ∗ po c M fullShare f)

end Cert.Guarded.Hand

end
-- ==== Proof.Loads.lean ====
module

public import proofs.«01_k».proof.Proof.State
public import proofs.«01_k».proof.Proof.Gen.Guarded.Launch
public import proofs.«01_k».proof.Proof.Gen.Guarded.Skeleton
public import proofs.«01_k».proof.Proof.Gen.Guarded.Points
public import proofs.«01_k».proof.Proof.Gen.Guarded.Frame
public import Idealize.ShloMosaic.Lib.Pipeline.FrameSuffixV
public import Idealize.ShloMosaic.Lib.Pipeline.FrameBody
public import Idealize.ShloMosaic.Lib.Ring
public import Idealize.ShloMosaic.Lib.Tactic
public import Idealize.ShloMosaic.Lib.WordCmp
public import Idealize.ShloMosaic.Lib.PointwiseCore

@[expose] public section

set_option maxRecDepth 16384

noncomputable section

namespace Cert.Guarded.Hand

open Cert.Guarded Cert.Guarded.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (A : In F)

/-- The words that the checks test are below ten, so the checks hold. -/
theorem chk1_ok (i : grid0.Coords) (w : BitVec 32) (h : w.toNat < 10) : k0_chk1 i w := by
  refine ⟨fun _ a => ?_, fun _ a => ?_, fun _ a => ?_⟩ <;> fin_cases a <;>
    simp [k0_off7, k0_off8, k0_off9] <;> omega
theorem chk2_ok (i : grid0.Coords) (w : BitVec 32) (h : w.toNat < 10) : k0_chk2 i w := by
  refine ⟨fun _ a => ?_, fun _ a => ?_, fun _ a => ?_⟩ <;> fin_cases a <;>
    simp [k0_off12, k0_off14, k0_off15, Scalar.indexCast] <;> omega

/-- A load of a whole buffer reads it. -/
theorem ld_whole {κ : Kind} {sp : Space} {S : Shape} {e : EltTy} (v : View sig κ sp S e) (f : v.ty.Contents (Elt F)) {off : Fin S.rank → ℕ}
    (inb : ∀ a, off a + S.size a ≤ S.size a) (h : ∀ a, off a = 0) :
    v.readAt (Elt F) (Rect.unit (s := S) off S.size inb).toLoadRect f = v.read (Elt F) f :=
  funext fun j => ld_at v f inb j j fun a => by rw [h a, Nat.zero_add]
/-- A store over a whole buffer replaces it. -/
theorem wr_whole {κ : Kind} {sp : Space} {S : Shape} {e : EltTy} (v : View sig κ sp S e) (f : v.ty.Contents (Elt F)) {off : Fin S.rank → ℕ}
    (inb : ∀ a, off a + S.size a ≤ S.size a) (h : ∀ a, off a = 0) (w : Vec F S e) :
    v.read (Elt F) (v.writes (Elt F) f [⟨Rect.unit (s := S) off S.size inb, w⟩]) = w :=
  funext fun j => wr_in v f inb w [] j j fun a => by rw [h a, Nat.zero_add]

theorem ew_lt (b : Fin 2) : (ew A b).toNat < 10 := sel_lt _ _
theorem ex_val (b : Fin 2) : (ex A b).val = (ew A b).toNat := fin10_val (ew_lt A b)

/-- Loading the chosen word gives the word. -/
theorem ld_sel (c : Dev nD) (b : Fin 2) (g : Bf (F := F) c sT) (h : selT A c b g) {off : Fin 1 → ℕ} (inb : ∀ a, off a + S1.size a ≤ S2.size a)
    (ho : off = ![b.val]) (x : S1.Idx) :
    sT.view.readAt (Elt F) (Rect.unit (s := S2) off S1.size inb).toLoadRect g x = ew A b := by
  subst ho
  rw [← h]
  refine ld_at sT.view g inb x (ix1 b) fun a => ?_
  have hx : (x 0).val = 0 := by have h : (x 0).val < 1 := (x 0).isLt; omega
  fin_cases a
  show b.val = b.val + (x 0).val
  omega

/-- The output block that a store leaves, from what stands in the scratch. -/
theorem out_ok (c : Dev nD) (b j : Fin 2) {arg5 : Memref sig .tc .vmem S768x768 .f32} {arg6 : Memref sig .tc .vmem S768 .f32} {arg10 : Memref sig .tc .vmem S1x1024x768 .f32}
    (f5 : Bf (F := F) c arg5) (f6 : Bf (F := F) c arg6) (f10 : Bf (F := F) c arg10) (gF2 : Bf (F := F) c sF2) (gH : Bf (F := F) c sH) (gB : Bf (F := F) c sB)
    (e5 : arg5.view.read (Elt F) f5 = A.ow) (e6 : arg6.view.read (Elt F) f6 = A.ob) (eF2 : halfF2 A c (ex A b) j gF2) (eH : sH.view.read (Elt F) gH = hh A b)
    (eB : sB.view.read (Elt F) gB = fb A b) {o20 o21 : Fin 2 → ℕ} (h20 : o20 = ![1024 * j.val, 0]) (h21 : o21 = ![1024 * j.val, 0])
    (i20 : ∀ a, o20 a + S1024x512.size a ≤ S2048x512.size a) (i21 : ∀ a, o21 a + S1024x1.size a ≤ S2048x1.size a) :
    arg10.view.read (Elt F) (arg10.view.writes (Elt F) f10 [⟨Rect.unit ![0, 0, 0] S1x1024x768.size inb_S1x1024x768_S1x1024x768_0_0_0,
      k0_pay5 (sF2.view.readAt (Elt F) (Rect.unit (s := S2048x512) o20 S1024x512.size i20).toLoadRect gF2)
        (sH.view.readAt (Elt F) (Rect.unit ![0, 0] S512x768.size inb_S512x768_S512x768_0_0).toLoadRect gH)
        (sB.view.readAt (Elt F) (Rect.unit (s := S2048x1) o21 S1024x1.size i21).toLoadRect gB)
        (arg5.view.readAt (Elt F) (Rect.unit ![0, 0] S768x768.size inb_S768x768_S768x768_0_0).toLoadRect f5)
        (arg6.view.readAt (Elt F) (Rect.unit ![0] S768.size inb_S768_S768_0).toLoadRect f6)⟩]) = ob A b j := by
  subst h20 h21
  refine (wr_whole arg10.view f10 inb_S1x1024x768_S1x1024x768_0_0_0 (by decide) _).trans ?_
  unfold ob
  have a1 : sF2.view.readAt (Elt F) (Rect.unit (s := S2048x512) ![1024 * j.val, 0] S1024x512.size i20).toLoadRect gF2 = w2e A (ex A b) j := by
    funext y
    idx_vars y
    refine (ld_at sF2.view gF2 i20 _ (ix2 ⟨1024 * j.val + y0.val, by omega⟩ y1) fun a => ?_).trans (eF2 y0 y1)
    fin_cases a
    · rfl
    · exact (Nat.zero_add _).symm
  have a3 : sB.view.readAt (Elt F) (Rect.unit (s := S2048x1) ![1024 * j.val, 0] S1024x1.size i21).toLoadRect gB = fbc A b j := by
    funext y
    idx_vars y
    unfold fbc
    rw [← eB]
    refine ld_at sB.view gB i21 _ (ix2 ⟨1024 * j.val + y0.val, by omega⟩ y1) fun a => ?_
    fin_cases a
    · rfl
    · exact (Nat.zero_add _).symm
  rw [a1, a3, ld_whole sH.view gH _ (by decide), ld_whole arg5.view f5 _ (by decide), ld_whole arg6.view f6 _ (by decide), eH, e5, e6]

theorem chk3_ok (t : Fin cfg0.N) (ht : t = t0_2 ∨ t = t0_3 ∨ t = t0_6 ∨ t = t0_7) (w : BitVec 32) (h : w.toNat < 10) : k0_chk3 (grid0.coords t) w := by
  have e : k0_off19 (grid0.coords t) w = ![w.toNat, 0, 0] ∨ k0_off19 (grid0.coords t) w = ![w.toNat, 1024, 0] := by
    rcases ht with rfl | rfl | rfl | rfl
    · exact .inl rfl
    · exact .inr rfl
    · exact .inl rfl
    · exact .inr rfl
  intro _ a
  rcases e with e | e <;> rw [e] <;> fin_cases a <;> simp <;> omega

/-- A write outside a slice does not change what stands under the slice. -/
theorem wr_congr {κ : Kind} {sp : Space} {S : Shape} {e : EltTy} (v : View sig κ sp S e) (f : v.ty.Contents (Elt F)) (r r' : Rect S) (w : r'.shape.Idx → Elt F e)
    (L : List (View.Piece (Elt F) S e)) (h : Disjoint (v.slice r).set (v.slice r').set) (i : v.ty.Idx) (hi : i ∈ (v.slice r).set) :
    v.writes (Elt F) f (⟨r', w⟩ :: L) i = v.writes (Elt F) f L i := by
  rw [View.writes_cons]
  exact View.write_of_not_mem _ _ _ (Finset.disjoint_left.mp h hi)

theorem sX_ab : Disjoint sXa.view.set sXb.view.set :=
  View.disjoint_slice_of_sep sX.view (Rect.unit (s := S4096x768) ![2048, 0] S1024x768.size (by decide)) (Rect.unit (s := S4096x768) ![3072, 0] S1024x768.size (by decide)) 0 rfl rfl (.inl (by decide))
theorem sF2_ab : Disjoint sF2a.view.set sF2b.view.set :=
  View.disjoint_slice_of_sep sF2.view (Rect.unit (s := S2048x512) ![0, 0] S1024x512.size (by decide)) (Rect.unit (s := S2048x512) ![1024, 0] S1024x512.size (by decide)) 0 rfl rfl (.inl (by decide))

/-- After the two copies of `x[1]` and a store over the first rows, its rows stand in the scratch. -/
theorem flyX_ok (c : Dev nD) (gX : Bf (F := F) c sX) {o : Fin 2 → ℕ} (ho : o = ![0, 0]) (io : ∀ a, o a + S2048x768.size a ≤ S4096x768.size a)
    (i0 : ∀ a, (![2048, 0] : Fin 2 → ℕ) a + S1024x768.size a ≤ S4096x768.size a) (i1 : ∀ a, (![3072, 0] : Fin 2 → ℕ) a + S1024x768.size a ≤ S4096x768.size a)
    (w : Vec F S2048x768 .f32) (d0 d1 : Vec F S1024x768 .f32) (h0 : ∀ j k, d0 (ix2 j k) = A.x (ix3 1 ⟨1024 * 0 + j.val, by omega⟩ k))
    (h1 : ∀ j k, d1 (ix2 j k) = A.x (ix3 1 ⟨1024 * 1 + j.val, by omega⟩ k)) :
    halfX A c 1 0 (sX.view.writes (Elt F) gX [⟨Rect.unit (s := S4096x768) o S2048x768.size io, w⟩, ⟨Rect.unit (s := S4096x768) ![3072, 0] S1024x768.size i1, d1⟩,
        ⟨Rect.unit (s := S4096x768) ![2048, 0] S1024x768.size i0, d0⟩])
      ∧ halfX A c 1 1 (sX.view.writes (Elt F) gX [⟨Rect.unit (s := S4096x768) o S2048x768.size io, w⟩, ⟨Rect.unit (s := S4096x768) ![3072, 0] S1024x768.size i1, d1⟩,
        ⟨Rect.unit (s := S4096x768) ![2048, 0] S1024x768.size i0, d0⟩]) := by
  subst ho
  refine ⟨fun j k => ?_, fun j k => ?_⟩
  · refine (wr_out sX.view gX io w _ _ 0 (.inr ?_)).trans ((wr_out sX.view gX i1 d1 _ _ 0 (.inl ?_)).trans ((wr_in sX.view gX i0 d0 _ (ix2 j k) _ fun a => ?_).trans (h0 j k)))
    · show 0 + 2048 ≤ 2048 * 1 + 1024 * 0 + j.val; omega
    · show 2048 * 1 + 1024 * 0 + j.val < 3072; omega
    · fin_cases a
      · show 2048 * 1 + 1024 * 0 + j.val = 2048 + j.val; omega
      · exact (Nat.zero_add _).symm
  · refine (wr_out sX.view gX io w _ _ 0 (.inr ?_)).trans ((wr_in sX.view gX i1 d1 _ (ix2 j k) _ fun a => ?_).trans (h1 j k))
    · show 0 + 2048 ≤ 2048 * 1 + 1024 * 1 + j.val; omega
    · fin_cases a
      · show 2048 * 1 + 1024 * 1 + j.val = 3072 + j.val; omega
      · exact (Nat.zero_add _).symm

/-- The hidden layer that the store leaves, from what stands in the scratch. -/
theorem hid_ok (c : Dev nD) (b : Fin 2) {arg3 : Memref sig .tc .vmem S10x512 .f32} (f3 : Bf (F := F) c arg3) (gX : Bf (F := F) c sX) (gH : Bf (F := F) c sH) (gF1 : Bf (F := F) c sF1)
    (e3 : arg3.view.read (Elt F) f3 = A.b1) (eX : halfX A c b 0 gX ∧ halfX A c b 1 gX) (eF1 : sF1.view.read (Elt F) gF1 = w1e A (ex A b)) (eH : statH A c b gH)
    {o11 o13 o14 : Fin 2 → ℕ} (h11 : o11 = ![2048 * b.val, 0]) (h13 : o13 = ![2048 * b.val, 0]) (h14 : o14 = ![(ew A b).toNat, 0])
    (i11 i11' : ∀ a, o11 a + S2048x768.size a ≤ S4096x768.size a) (i13 : ∀ a, o13 a + S2048x768.size a ≤ S4096x768.size a) (i14 : ∀ a, o14 a + S1x512.size a ≤ S10x512.size a)
    (L : List (View.Piece (Elt F) S4096x768 .f32)) :
    sH.view.read (Elt F) (sH.view.writes (Elt F) gH [⟨Rect.unit ![0, 0] S512x768.size inb_S512x768_S512x768_0_0,
      k0_pay4
        (k0_pay15 (sF1.view.readAt (Elt F) (Rect.unit ![0, 0] S512x2048.size inb_S512x2048_S512x2048_0_0).toLoadRect gF1)
          (sX.view.readCov (⟨Rect.unit (s := S4096x768) o11 S2048x768.size i11, k0_pay13
            (sH.view.readAt (Elt F) (Rect.unit (s := S512x768) ![0, 0] S1x768.size inb_S512x768_S1x768_0_0).toLoadRect gH)
            (sH.view.readAt (Elt F) (Rect.unit (s := S512x768) ![1, 0] S1x768.size inb_S512x768_S1x768_1_0).toLoadRect gH)
            (sX.view.readAt (Elt F) (Rect.unit (s := S4096x768) o11 S2048x768.size i11').toLoadRect gX)⟩ :: L) (Rect.unit (s := S4096x768) o13 S2048x768.size i13).toLoadRect)
          (arg3.view.readAt (Elt F) (Rect.unit (s := S10x512) o14 S1x512.size i14).toLoadRect f3))
        (k0_pay16 (sF1.view.readAt (Elt F) (Rect.unit ![0, 0] S512x2048.size inb_S512x2048_S512x2048_0_0).toLoadRect gF1)
          (sX.view.readCov (⟨Rect.unit (s := S4096x768) o11 S2048x768.size i11, k0_pay13
            (sH.view.readAt (Elt F) (Rect.unit (s := S512x768) ![0, 0] S1x768.size inb_S512x768_S1x768_0_0).toLoadRect gH)
            (sH.view.readAt (Elt F) (Rect.unit (s := S512x768) ![1, 0] S1x768.size inb_S512x768_S1x768_1_0).toLoadRect gH)
            (sX.view.readAt (Elt F) (Rect.unit (s := S4096x768) o11 S2048x768.size i11').toLoadRect gX)⟩ :: L) (Rect.unit (s := S4096x768) o13 S2048x768.size i13).toLoadRect)
          (arg3.view.readAt (Elt F) (Rect.unit (s := S10x512) o14 S1x512.size i14).toLoadRect f3))
        (Scalar.ofBits .f32 0x3D372713#32)⟩]) = hh A b := by
  subst h11 h13 h14
  refine (wr_whole sH.view gH inb_S512x768_S512x768_0_0 (by decide) _).trans ?_
  have a0 : sH.view.readAt (Elt F) (Rect.unit (s := S512x768) ![0, 0] S1x768.size inb_S512x768_S1x768_0_0).toLoadRect gH = mu A b := by
    funext y
    idx_vars y
    refine (ld_at sH.view gH _ _ (ix2 0 y1) fun a => ?_).trans ((eH y1).1.trans (congrArg _ ?_))
    · fin_cases a
      · show 0 = 0 + y0.val; omega
      · exact (Nat.zero_add _).symm
    · have : y0 = 0 := by omega
      rw [this]
  have a1 : sH.view.readAt (Elt F) (Rect.unit (s := S512x768) ![1, 0] S1x768.size inb_S512x768_S1x768_1_0).toLoadRect gH = rs A b := by
    funext y
    idx_vars y
    refine (ld_at sH.view gH _ _ (ix2 1 y1) fun a => ?_).trans ((eH y1).2.trans (congrArg _ ?_))
    · fin_cases a
      · show 1 = 1 + y0.val; omega
      · exact (Nat.zero_add _).symm
    · have : y0 = 0 := by omega
      rw [this]
  have a2 : sX.view.readAt (Elt F) (Rect.unit (s := S4096x768) ![2048 * b.val, 0] S2048x768.size i11').toLoadRect gX = xf A b := by
    funext y
    idx_vars y
    unfold xf
    by_cases hy : y0.val < 1024
    · refine (ld_at sX.view gX i11' _ (ix2 ⟨2048 * b.val + 1024 * (0 : Fin 2).val + y0.val, by omega⟩ y1) fun a => ?_).trans ((eX.1 ⟨y0.val, hy⟩ y1).trans (congrArg A.x ?_))
      · fin_cases a
        · rfl
        · exact (Nat.zero_add _).symm
      · congr 1; exact Fin.ext (by show 1024 * 0 + y0.val = y0.val; omega)
    · refine (ld_at sX.view gX i11' _ (ix2 ⟨2048 * b.val + 1024 * (1 : Fin 2).val + (y0.val - 1024), by show 2048 * b.val + 1024 * 1 + (y0.val - 1024) < 4096; omega⟩ y1) fun a => ?_).trans
        ((eX.2 ⟨y0.val - 1024, by omega⟩ y1).trans (congrArg A.x ?_))
      · fin_cases a
        · show 2048 * b.val + 1024 * 1 + (y0.val - 1024) = 2048 * b.val + y0.val; omega
        · exact (Nat.zero_add _).symm
      · congr 1; exact Fin.ext (by show 1024 * 1 + (y0.val - 1024) = y0.val; omega)
  have a3 : arg3.view.readAt (Elt F) (Rect.unit (s := S10x512) ![(ew A b).toNat, 0] S1x512.size i14).toLoadRect f3 = b1e A (ex A b) := by
    funext y
    idx_vars y
    unfold b1e
    rw [← e3]
    refine ld_at arg3.view f3 i14 _ (ix2 (ex A b) y1) fun a => ?_
    fin_cases a
    · show (ex A b).val = (ew A b).toNat + y0.val
      rw [ex_val]; omega
    · exact (Nat.zero_add _).symm
  rw [a0, a1, a2, a3, View.readCov_cons_toLoadRect, ld_whole sF1.view gF1 _ (by decide), eF1]
  rfl

/-- The bias column that the store leaves. -/
theorem fb_ok (c : Dev nD) (b : Fin 2) {arg4 : Memref sig .tc .vmem S10x2048 .f32} (f4 : Bf (F := F) c arg4) (gB : Bf (F := F) c sB) (e4 : arg4.view.read (Elt F) f4 = A.b2)
    {o15 : Fin 2 → ℕ} (h15 : o15 = ![(ew A b).toNat, 0]) (i15 : ∀ a, o15 a + S1x2048.size a ≤ S10x2048.size a) :
    sB.view.read (Elt F) (sB.view.writes (Elt F) gB [⟨Rect.unit ![0, 0] S2048x1.size inb_S2048x1_S2048x1_0_0,
      k0_pay14 (arg4.view.readAt (Elt F) (Rect.unit (s := S10x2048) o15 S1x2048.size i15).toLoadRect f4)⟩]) = fb A b := by
  subst h15
  refine (wr_whole sB.view gB inb_S2048x1_S2048x1_0_0 (by decide) _).trans ?_
  unfold fb
  congr 1
  funext y
  idx_vars y
  unfold b2e
  rw [← e4]
  refine ld_at arg4.view f4 i15 _ (ix2 (ex A b) y1) fun a => ?_
  fin_cases a
  · show (ex A b).val = (ew A b).toNat + y0.val
    rw [ex_val]; omega
  · exact (Nat.zero_add _).symm

/-- The state in which `x[1]` is on its way, from what the point's copies and store leave. -/
theorem flyX_make (c : Dev nD) (fX : Bf (F := F) c mX) (gX : Bf (F := F) c sX) {o : Fin 2 → ℕ} (ho : o = ![0, 0]) (io : ∀ a, o a + S2048x768.size a ≤ S4096x768.size a)
    (w : Vec F S2048x768 .f32) (d0 d1 : Vec F S1024x768 .f32) (h0 : ∀ j k, d0 (ix2 j k) = A.x (ix3 1 ⟨1024 * 0 + j.val, by omega⟩ k))
    (h1 : ∀ j k, d1 (ix2 j k) = A.x (ix3 1 ⟨1024 * 1 + j.val, by omega⟩ k)) (s s' : Finset (Idx (mX.view.loc (c : Thread nD τ)))) :
    iprop(fl c 10 98304 iprop((sX.view.loc (c : Thread nD τ) ↦[sXa.view.set]{fullShare}
            sX.view.writes (Elt F) gX [⟨Rect.unit (s := S4096x768) ![2048, 0] S1024x768.size inb_S4096x768_S1024x768_2048_0, d0⟩]) ∗ (mX.view.loc (c : Thread nD τ) ↦[s]{fullShare.left} fX))
      ∗ (mX.view.loc (c : Thread nD τ) ↦[Finset.univ \ s]{fullShare.left} fX)
      ∗ fl c 11 98304 iprop((sX.view.loc (c : Thread nD τ) ↦[sXb.view.set]{fullShare}
            sX.view.writes (Elt F) gX [⟨Rect.unit (s := S4096x768) ![3072, 0] S1024x768.size inb_S4096x768_S1024x768_3072_0, d1⟩,
              ⟨Rect.unit (s := S4096x768) ![2048, 0] S1024x768.size inb_S4096x768_S1024x768_2048_0, d0⟩]) ∗ (mX.view.loc (c : Thread nD τ) ↦[s']{fullShare.right} fX))
      ∗ (mX.view.loc (c : Thread nD τ) ↦[Finset.univ \ s']{fullShare.right} fX)
      ∗ (sX.view.loc (c : Thread nD τ) ↦[(Finset.univ \ sXa.view.set) \ sXb.view.set]{fullShare}
            sX.view.writes (Elt F) gX [⟨Rect.unit (s := S4096x768) o S2048x768.size io, w⟩,
              ⟨Rect.unit (s := S4096x768) ![3072, 0] S1024x768.size inb_S4096x768_S1024x768_3072_0, d1⟩,
              ⟨Rect.unit (s := S4096x768) ![2048, 0] S1024x768.size inb_S4096x768_S1024x768_2048_0, d0⟩]))
    ⊢ flyX A c fX := by
  have hf := flyX_ok A c gX ho io inb_S4096x768_S1024x768_2048_0 inb_S4096x768_S1024x768_3072_0 w d0 d1 h0 h1
  subst ho
  have e1 : ∀ i ∈ sXa.view.set, sX.view.writes (Elt F) gX [⟨Rect.unit (s := S4096x768) ![2048, 0] S1024x768.size inb_S4096x768_S1024x768_2048_0, d0⟩] i
      = sX.view.writes (Elt F) gX [⟨Rect.unit (s := S4096x768) ![0, 0] S2048x768.size io, w⟩,
              ⟨Rect.unit (s := S4096x768) ![3072, 0] S1024x768.size inb_S4096x768_S1024x768_3072_0, d1⟩,
              ⟨Rect.unit (s := S4096x768) ![2048, 0] S1024x768.size inb_S4096x768_S1024x768_2048_0, d0⟩] i := fun i hi =>
    ((wr_congr sX.view gX _ _ _ _ (View.disjoint_slice_of_sep sX.view _ _ 0 rfl rfl (.inr (show 0 + 2048 ≤ 2048 by decide))) i hi).trans
      (wr_congr sX.view gX _ _ _ _ sX_ab i hi)).symm
  have e2 : ∀ i ∈ sXb.view.set, sX.view.writes (Elt F) gX [⟨Rect.unit (s := S4096x768) ![3072, 0] S1024x768.size inb_S4096x768_S1024x768_3072_0, d1⟩,
              ⟨Rect.unit (s := S4096x768) ![2048, 0] S1024x768.size inb_S4096x768_S1024x768_2048_0, d0⟩] i
      = sX.view.writes (Elt F) gX [⟨Rect.unit (s := S4096x768) ![0, 0] S2048x768.size io, w⟩,
              ⟨Rect.unit (s := S4096x768) ![3072, 0] S1024x768.size inb_S4096x768_S1024x768_3072_0, d1⟩,
              ⟨Rect.unit (s := S4096x768) ![2048, 0] S1024x768.size inb_S4096x768_S1024x768_2048_0, d0⟩] i := fun i hi =>
    (wr_congr sX.view gX _ _ _ _ (View.disjoint_slice_of_sep sX.view _ _ 0 rfl rfl (.inr (show 0 + 2048 ≤ 3072 by decide))) i hi).symm
  have p1 := pointsTo_congr (Ix := Unit) (Name := ℕ) (U := Pipeline.UD sig nD τ) (Lvl := ℕ) (ℓ := sX.view.loc (c : Thread nD τ)) (q := fullShare) e1
  have p2 := pointsTo_congr (Ix := Unit) (Name := ℕ) (U := Pipeline.UD sig nD τ) (Lvl := ℕ) (ℓ := sX.view.loc (c : Thread nD τ)) (q := fullShare) e2
  rw [p1, p2]
  unfold flyX
  iintro ⟨H1, H2, H3, H4, H5⟩
  iexists _, s, s'
  isplitr
  · ipureintro; exact hf
  isplitl [H1]; · iexact H1
  isplitl [H2]; · iexact H2
  isplitl [H3]; · iexact H3
  isplitl [H4]; · iexact H4
  iexact H5

/-- The state in which both halves of the second weight are on their way, from what the point's copies leave. -/
theorem flyF2_make (c : Dev nD) (fF2 : Bf (F := F) c mF2) (g0 : Bf (F := F) c sF2) (e : Fin 10)
    (d0 d1 : Vec F S1024x512 .f32) (h0 : ∀ j k, d0 (ix2 j k) = A.w2 (ix3 e ⟨1024 * 0 + j.val, by omega⟩ k))
    (h1 : ∀ j k, d1 (ix2 j k) = A.w2 (ix3 e ⟨1024 * 1 + j.val, by omega⟩ k)) (s s' : Finset (Idx (mF2.view.loc (c : Thread nD τ)))) :
    iprop(fl c 13 65536 iprop((sF2.view.loc (c : Thread nD τ) ↦[sF2a.view.set]{fullShare}
            sF2.view.writes (Elt F) g0 [⟨Rect.unit (s := S2048x512) ![0, 0] S1024x512.size inb_S2048x512_S1024x512_0_0, d0⟩]) ∗ (mF2.view.loc (c : Thread nD τ) ↦[s]{fullShare.left} fF2))
      ∗ (mF2.view.loc (c : Thread nD τ) ↦[Finset.univ \ s]{fullShare.left} fF2)
      ∗ fl c 14 65536 iprop((sF2.view.loc (c : Thread nD τ) ↦[sF2b.view.set]{fullShare}
            sF2.view.writes (Elt F) g0 [⟨Rect.unit (s := S2048x512) ![1024, 0] S1024x512.size inb_S2048x512_S1024x512_1024_0, d1⟩,
              ⟨Rect.unit (s := S2048x512) ![0, 0] S1024x512.size inb_S2048x512_S1024x512_0_0, d0⟩]) ∗ (mF2.view.loc (c : Thread nD τ) ↦[s']{fullShare.right} fF2))
      ∗ (mF2.view.loc (c : Thread nD τ) ↦[Finset.univ \ s']{fullShare.right} fF2)
      ∗ (sF2.view.loc (c : Thread nD τ) ↦[(Finset.univ \ sF2a.view.set) \ sF2b.view.set]{fullShare}
            sF2.view.writes (Elt F) g0 [⟨Rect.unit (s := S2048x512) ![1024, 0] S1024x512.size inb_S2048x512_S1024x512_1024_0, d1⟩,
              ⟨Rect.unit (s := S2048x512) ![0, 0] S1024x512.size inb_S2048x512_S1024x512_0_0, d0⟩]))
    ⊢ flyF2 A c fF2 e := by
  have e1 : ∀ i ∈ sF2a.view.set, sF2.view.writes (Elt F) g0 [⟨Rect.unit (s := S2048x512) ![0, 0] S1024x512.size inb_S2048x512_S1024x512_0_0, d0⟩] i
      = sF2.view.writes (Elt F) g0 [⟨Rect.unit (s := S2048x512) ![1024, 0] S1024x512.size inb_S2048x512_S1024x512_1024_0, d1⟩,
              ⟨Rect.unit (s := S2048x512) ![0, 0] S1024x512.size inb_S2048x512_S1024x512_0_0, d0⟩] i := fun i hi =>
    (wr_congr sF2.view g0 _ _ _ _ sF2_ab i hi).symm
  have f0 : halfF2 A c e 0 (sF2.view.writes (Elt F) g0 [⟨Rect.unit (s := S2048x512) ![1024, 0] S1024x512.size inb_S2048x512_S1024x512_1024_0, d1⟩,
              ⟨Rect.unit (s := S2048x512) ![0, 0] S1024x512.size inb_S2048x512_S1024x512_0_0, d0⟩]) := fun j k => by
    refine (wr_out sF2.view g0 _ d1 _ _ 0 (.inl ?_)).trans ((wr_in sF2.view g0 _ d0 _ (ix2 j k) _ fun a => ?_).trans (h0 j k))
    · show 1024 * 0 + j.val < 1024; omega
    · fin_cases a
      · show 1024 * 0 + j.val = 0 + j.val; omega
      · exact (Nat.zero_add _).symm
  have f1 : halfF2 A c e 1 (sF2.view.writes (Elt F) g0 [⟨Rect.unit (s := S2048x512) ![1024, 0] S1024x512.size inb_S2048x512_S1024x512_1024_0, d1⟩,
              ⟨Rect.unit (s := S2048x512) ![0, 0] S1024x512.size inb_S2048x512_S1024x512_0_0, d0⟩]) := fun j k => by
    refine (wr_in sF2.view g0 _ d1 _ (ix2 j k) _ fun a => ?_).trans (h1 j k)
    fin_cases a
    · rfl
    · exact (Nat.zero_add _).symm
  rw [pointsTo_congr e1]
  unfold flyF2 tailF2
  iintro ⟨H1, H2, H3, H4, H5⟩
  iexists _, s
  isplitr
  · ipureintro; exact f0
  isplitl [H1]; · iexact H1
  isplitl [H2]; · iexact H2
  isplitl [H3 H4]
  · iexists s'
    isplitr
    · ipureintro; exact f1
    isplitl [H3]; · iexact H3
    iexact H4
  iexact H5

/-- The statistics that the two stores leave, from the two halves of the rows. -/
theorem stat_ok (c : Dev nD) (b : Fin 2) (gH : Bf (F := F) c sH) {v33 v53 : Vec F S1024x768 .f32} (h33 : v33 = xc A b 0) (h53 : v53 = xc A b 1) :
    statH A c b (sH.view.writes (Elt F) gH [⟨Rect.unit (s := S512x768) ![1, 0] S1x768.size inb_S512x768_S1x768_1_0, k0_pay10 (k0_pay6 v33) (k0_pay7 v33) v53⟩,
      ⟨Rect.unit (s := S512x768) ![0, 0] S1x768.size inb_S512x768_S1x768_0_0, k0_pay9 (k0_pay6 v33) v53⟩]) := by
  subst h33 h53
  refine fun k => ⟨?_, ?_⟩
  · refine (wr_out sH.view gH _ _ _ _ 0 (.inl (show 0 < 1 by decide))).trans (wr_in sH.view gH _ _ _ (ix2 0 k) _ fun a => ?_)
    fin_cases a
    · rfl
    · exact (Nat.zero_add _).symm
  · refine wr_in sH.view gH _ _ _ (ix2 0 k) _ fun a => ?_
    fin_cases a
    · rfl
    · exact (Nat.zero_add _).symm

/-- The probabilities, from the two halves of the rows. -/
theorem pr_ok (c : Dev nD) (b : Fin 2) {v33 v53 : Vec F S1024x768 .f32} (h33 : v33 = xc A b 0) (h53 : v53 = xc A b 1)
    {arg2 : Memref sig .tc .vmem S10x768 .f32} (f2 : Bf (F := F) c arg2) (e2 : arg2.view.read (Elt F) f2 = A.rw) :
    k0_pay11 (k0_pay6 v33) v53 (arg2.view.readAt (Elt F) (Rect.unit (s := S10x768) ![0, 0] S10x768.size inb_S10x768_S10x768_0_0).toLoadRect f2) = pr A b := by
  rw [ld_whole arg2.view f2 _ (by decide), e2, h33, h53]; rfl
theorem pm_ok (c : Dev nD) (b : Fin 2) {v33 v53 : Vec F S1024x768 .f32} (h33 : v33 = xc A b 0) (h53 : v53 = xc A b 1)
    {arg2 : Memref sig .tc .vmem S10x768 .f32} (f2 : Bf (F := F) c arg2) (e2 : arg2.view.read (Elt F) f2 = A.rw) :
    k0_pay12 (k0_pay6 v33) v53 (arg2.view.readAt (Elt F) (Rect.unit (s := S10x768) ![0, 0] S10x768.size inb_S10x768_S10x768_0_0).toLoadRect f2) = pm A b := by
  rw [ld_whole arg2.view f2 _ (by decide), e2, h33, h53]; rfl
/-- The chosen word, from the two halves of the rows. -/
theorem ew_ok (c : Dev nD) (b : Fin 2) {v33 v53 : Vec F S1024x768 .f32} (h33 : v33 = xc A b 0) (h53 : v53 = xc A b 1)
    {arg2 : Memref sig .tc .vmem S10x768 .f32} (f2 : Bf (F := F) c arg2) (e2 : arg2.view.read (Elt F) f2 = A.rw) :
    extractAt ![0, 0] (k0_pay1
      (k0_pay11 (k0_pay6 v33) v53 (arg2.view.readAt (Elt F) (Rect.unit (s := S10x768) ![0, 0] S10x768.size inb_S10x768_S10x768_0_0).toLoadRect f2)) lanes
      (k0_pay12 (k0_pay6 v33) v53 (arg2.view.readAt (Elt F) (Rect.unit (s := S10x768) ![0, 0] S10x768.size inb_S10x768_S10x768_0_0).toLoadRect f2))) inpos_S1x1_p0_0 = ew A b := by
  rw [pr_ok A c b h33 h53 f2 e2, pm_ok A c b h33 h53 f2 e2]; rfl

/-- The store of the chosen word. -/
theorem selT_ok (c : Dev nD) (b : Fin 2) (gT : Bf (F := F) c sT) {w : BitVec 32} (hw : w = ew A b) {o : Fin 1 → ℕ} (ho : o = ![b.val]) (io : ∀ a, o a + S1.size a ≤ S2.size a) :
    selT A c b (sT.view.writes (Elt F) gT [⟨Rect.unit (s := S2) o S1.size io, fun _ => w⟩]) := by
  subst ho hw
  exact wr_in sT.view gT io (fun _ => ew A b) [] (ix1 (0 : Fin 1)) (ix1 b) fun a => by fin_cases a; rfl

/-- The store of the probabilities. -/
theorem keptP_ok (c : Dev nD) (b : Fin 2) (gP : Bf (F := F) c sP) {v : Vec F S1x10 .f32} (hv : v = pr A b) :
    sP.view.read (Elt F) (sP.view.writes (Elt F) gP [⟨Rect.unit (s := S1x10) ![0, 0] S1x10.size inb_S1x10_S1x10_0_0, k0_pay2 v⟩]) = pr A b := by
  subst hv
  refine (wr_whole sP.view gP inb_S1x10_S1x10_0_0 (by decide) _).trans ?_
  unfold k0_pay2
  funext y
  exact shapeCast_apply _ _ y y rfl

/-- The two halves of the rows, loaded just after they came in. -/
theorem in0_ok {v : View sig .tc .vmem S4096x768 .f32} (b : Fin 2) {d0 d1 : Vec F S1024x768 .f32} (h0 : ∀ j k, d0 (ix2 j k) = A.x (ix3 b ⟨1024 * 0 + j.val, by omega⟩ k))
    {o : Fin 2 → ℕ} (ho : o = ![0, 0]) (io : ∀ a, o a + S1024x768.size a ≤ S4096x768.size a) :
    v.readCov [⟨Rect.unit (s := S4096x768) ![1024, 0] S1024x768.size inb_S4096x768_S1024x768_1024_0, d1⟩,
      ⟨Rect.unit (s := S4096x768) ![0, 0] S1024x768.size inb_S4096x768_S1024x768_0_0, d0⟩] (Rect.unit (s := S4096x768) o S1024x768.size io).toLoadRect = xc A b 0 := by
  subst ho
  rw [View.readCov_cons_of_disjoint, View.readCov_cons_toLoadRect]
  · funext y
    idx_vars y
    exact h0 y0 y1
  · refine Finset.disjoint_left.mpr fun y hy hy' => ?_
    have a := (Rect.mem_set_unit (inb := inb_S4096x768_S1024x768_1024_0)).mp hy 0
    have b := Rect.mem_set_unit.mp hy' 0
    have h : 1024 ≤ (y 0).val := a.1
    have h' : (y 0).val < 0 + 1024 := b.2
    omega
theorem in1_ok {v : View sig .tc .vmem S4096x768 .f32} (b : Fin 2) {d1 : Vec F S1024x768 .f32} (h1 : ∀ j k, d1 (ix2 j k) = A.x (ix3 b ⟨1024 * 1 + j.val, by omega⟩ k))
    {o : Fin 2 → ℕ} (ho : o = ![1024, 0]) (io : ∀ a, o a + S1024x768.size a ≤ S4096x768.size a) (L : List (View.Piece (Elt F) S4096x768 .f32)) :
    v.readCov (⟨Rect.unit (s := S4096x768) ![1024, 0] S1024x768.size inb_S4096x768_S1024x768_1024_0, d1⟩ :: L) (Rect.unit (s := S4096x768) o S1024x768.size io).toLoadRect = xc A b 1 := by
  subst ho
  rw [View.readCov_cons_toLoadRect]
  funext y
  idx_vars y
  exact h1 y0 y1
/-- The two halves of the rows stand in the scratch when they came in. -/
theorem hereX_ok (c : Dev nD) (gX : Bf (F := F) c sX) {d0 d1 : Vec F S1024x768 .f32} (h0 : ∀ j k, d0 (ix2 j k) = A.x (ix3 0 ⟨1024 * 0 + j.val, by omega⟩ k))
    (h1 : ∀ j k, d1 (ix2 j k) = A.x (ix3 0 ⟨1024 * 1 + j.val, by omega⟩ k)) :
    halfX A c 0 0 (sX.view.writes (Elt F) gX [⟨Rect.unit (s := S4096x768) ![1024, 0] S1024x768.size inb_S4096x768_S1024x768_1024_0, d1⟩,
      ⟨Rect.unit (s := S4096x768) ![0, 0] S1024x768.size inb_S4096x768_S1024x768_0_0, d0⟩])
    ∧ halfX A c 0 1 (sX.view.writes (Elt F) gX [⟨Rect.unit (s := S4096x768) ![1024, 0] S1024x768.size inb_S4096x768_S1024x768_1024_0, d1⟩,
      ⟨Rect.unit (s := S4096x768) ![0, 0] S1024x768.size inb_S4096x768_S1024x768_0_0, d0⟩]) := by
  refine ⟨fun j k => ?_, fun j k => ?_⟩
  · refine (wr_out sX.view gX _ d1 _ _ 0 (.inl ?_)).trans ((wr_in sX.view gX _ d0 _ (ix2 j k) _ fun a => ?_).trans (h0 j k))
    · show 2048 * 0 + 1024 * 0 + j.val < 1024; omega
    · fin_cases a
      · show 2048 * 0 + 1024 * 0 + j.val = 0 + j.val; omega
      · exact (Nat.zero_add _).symm
  · refine (wr_in sX.view gX _ d1 _ (ix2 j k) _ fun a => ?_).trans (h1 j k)
    fin_cases a
    · show 2048 * 0 + 1024 * 1 + j.val = 1024 + j.val; omega
    · exact (Nat.zero_add _).symm
/-- A half of the rows that stands in the scratch, loaded. -/
theorem ldX_ok (c : Dev nD) (b h : Fin 2) (gX : Bf (F := F) c sX) (eX : halfX A c b h gX) {o : Fin 2 → ℕ} (ho : o = ![2048 * b.val + 1024 * h.val, 0])
    (io : ∀ a, o a + S1024x768.size a ≤ S4096x768.size a) :
    sX.view.readAt (Elt F) (Rect.unit (s := S4096x768) o S1024x768.size io).toLoadRect gX = xc A b h := by
  subst ho
  funext y
  idx_vars y
  refine (ld_at sX.view gX io _ (ix2 ⟨2048 * b.val + 1024 * h.val + y0.val, by omega⟩ y1) fun a => ?_).trans (eX y0 y1)
  fin_cases a
  · rfl
  · exact (Nat.zero_add _).symm

theorem off7_eq (b : Fin 2) {w : BitVec 32} (h : w = ew A b) : k0_off7 w = ![(ex A b).val, 0, 0] := by subst h; rw [ex_val]; rfl
theorem off8_eq (b : Fin 2) {w : BitVec 32} (h : w = ew A b) : k0_off8 w = ![(ex A b).val, 1024 * (0 : Fin 2).val, 0] := by subst h; rw [ex_val]; rfl
theorem off9_eq (b : Fin 2) {w : BitVec 32} (h : w = ew A b) : k0_off9 w = ![(ex A b).val, 1024 * (1 : Fin 2).val, 0] := by subst h; rw [ex_val]; rfl

/-- The first weight of an expert read through the transfer's source. -/
theorem read_f1 (c : Dev nD) (f : Bf (F := F) c mF1) (hA : mF1.view.read (Elt F) f = A.w1) (e : Fin 10) {off : Fin 3 → ℕ}
    (inb : ∀ a, off a + S1x512x2048.size a ≤ S10x512x2048.size a) (hr) (hq) (h : off = ![e.val, 0, 0]) :
    ((mF1.slice (Rect.unit (s := S10x512x2048) off S1x512x2048.size inb) hr).squeeze S512x2048 hq).view.read (Elt F) f = w1e A e := by
  subst h
  funext y
  idx_vars y
  unfold w1e
  rw [← hA]
  exact sq_at mF1 f inb hr hq (by decide) y0 y1 (ix3 e y0 y1) rfl (Nat.zero_add _).symm (Nat.zero_add _).symm
/-- A half of the second weight of an expert read through the transfer's source. -/
theorem read_f2 (c : Dev nD) (f : Bf (F := F) c mF2) (hA : mF2.view.read (Elt F) f = A.w2) (e : Fin 10) (j : Fin 2) {off : Fin 3 → ℕ}
    (inb : ∀ a, off a + S1x1024x512.size a ≤ S10x2048x512.size a) (hr) (hq) (h : off = ![e.val, 1024 * j.val, 0]) (i0 : Fin 1024) (i1 : Fin 512) :
    ((mF2.slice (Rect.unit (s := S10x2048x512) off S1x1024x512.size inb) hr).squeeze S1024x512 hq).view.read (Elt F) f (ix2 i0 i1)
      = A.w2 (ix3 e ⟨1024 * j.val + i0.val, by omega⟩ i1) := by
  subst h
  rw [← hA]
  exact sq_at mF2 f inb hr hq (by decide) i0 i1 (ix3 e ⟨1024 * j.val + i0.val, by omega⟩ i1) rfl rfl (Nat.zero_add _).symm

/-- The state in which the first weight is on its way, from what the point's copy leaves. -/
theorem flyF1_make (c : Dev nD) (fF1 : Bf (F := F) c mF1) (g0 : Bf (F := F) c sF1) (e : Fin 10) (d : Vec F S512x2048 .f32) (h : d = w1e A e)
    (s : Finset (Idx (mF1.view.loc (c : Thread nD τ)))) :
    iprop(fl c 12 131072 iprop(pt c sF1 fullShare (View.write (Elt F) sF1.view g0 d Finset.univ) ∗ (mF1.view.loc (c : Thread nD τ) ↦[s]{fullShare} fF1))
      ∗ (mF1.view.loc (c : Thread nD τ) ↦[Finset.univ \ s]{fullShare} fF1)) ⊢ flyF1 A c fF1 e := by
  subst h
  unfold flyF1
  iintro ⟨H1, H2⟩
  iexists _, s
  isplitr
  swap
  · isplitl [H1]; · iexact H1
    iexact H2
  · ipureintro
    exact View.read_write_univ _ _

end Cert.Guarded.Hand

end
-- ==== Proof.Points.lean ====
module

public import proofs.«01_k».proof.Proof.Loads
public import proofs.«01_k».proof.Proof.Gen.Guarded.Launch
public import proofs.«01_k».proof.Proof.Gen.Guarded.Skeleton
public import proofs.«01_k».proof.Proof.Gen.Guarded.Points
public import proofs.«01_k».proof.Proof.Gen.Guarded.Frame
public import Idealize.ShloMosaic.Lib.Pipeline.FrameSuffixV
public import Idealize.ShloMosaic.Lib.Pipeline.FrameBody
public import Idealize.ShloMosaic.Lib.Ring
public import Idealize.ShloMosaic.Lib.Tactic
public import Idealize.ShloMosaic.Lib.WordCmp
public import Idealize.ShloMosaic.Lib.PointwiseCore

@[expose] public section

set_option maxRecDepth 16384

noncomputable section

namespace Cert.Guarded.Hand

open Cert.Guarded Cert.Guarded.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (A : In F)

section Points
variable (c : Dev nD) (fX : Bf (F := F) c mX) (fF1 : Bf (F := F) c mF1) (fF2 : Bf (F := F) c mF2)
    (arg2 : Memref sig .tc .vmem S10x768 .f32) (h2 : arg2.IsWhole) (arg3 : Memref sig .tc .vmem S10x512 .f32) (h3 : arg3.IsWhole)
    (arg4 : Memref sig .tc .vmem S10x2048 .f32) (h4 : arg4.IsWhole) (arg5 : Memref sig .tc .vmem S768x768 .f32) (h5 : arg5.IsWhole)
    (arg6 : Memref sig .tc .vmem S768 .f32) (h6 : arg6.IsWhole) (arg10 : Memref sig .tc .vmem S1x1024x768 .f32) (h10 : arg10.IsWhole)
    (arg11 : Memref sig .tc .vmem S1x1 .f32) (h11 : arg11.IsWhole)

/-- The body at a grid point. -/
abbrev bod (t : Fin cfg0.N) : Prog (TpuEff nD τ sig (Elt F) Λ₀ .tc) PUnit :=
  cc0__guarded_body (grid0.coords t) arg2 h2 arg3 h3 arg4 h4 arg5 h5 arg6 h6 mX (Memref.isWhole_whole _) mF1 (Memref.isWhole_whole _) mF2 (Memref.isWhole_whole _)
    arg10 h10 arg11 h11 sH (Memref.isWhole_whole _) sX (Memref.isWhole_whole _) sF1 (Memref.isWhole_whole _) sF2 (Memref.isWhole_whole _)
    sP (Memref.isWhole_whole _) sB (Memref.isWhole_whole _) sT (Memref.isWhole_whole _) cc0_scratch7 cc0_scratch8 cc0_scratch9

/-- Some waits are owed. -/
def oweW : sProp 𝕄 := iprop(∃ W : Waits sig Unit, owes (c : Thread nD τ) 0 W)

theorem off14_eq (w : BitVec 32) : k0_off14 w = ![w.toNat, 0] := rfl
theorem off15_eq (w : BitVec 32) : k0_off15 w = ![w.toNat, 0] := rfl

set_option sl_exec.dmaWindow true in
/-- The first example's hidden layer, and the copy of the second example's rows started. -/
theorem point1a (hX : mX.view.read (Elt F) fX = A.x) :
    iprop(win c arg3 A.b1 ∗ win c arg4 A.b2 ∗ hereX A c fX 0 ∗ flyF1 A c fF1 (ex A 0) ∗ (∃ g, ⌜statH A c 0 g⌝ ∗ pt c sH fullShare g) ∗ any c sB ∗ keptT A c 0 ∗ oweW c)
    ⊢ wp frame (wpE (defs₀ (F := F)) Variants.none c none) Set.univ
      (bod (F := F) arg2 h2 arg3 h3 arg4 h4 arg5 h5 arg6 h6 arg10 h10 arg11 h11 t0_1)
      (fun _ => iprop(win c arg3 A.b1 ∗ win c arg4 A.b2 ∗ flyX A c fX ∗ freeF1 c fF1 ∗ hid A c 0 ∗ keptT A c 0 ∗ oweW c)) := by
  have hc3 : ¬ k0_cond3 (grid0.coords t0_1) = 1#1 := by decide
  have hc6 : k0_cond6 (grid0.coords t0_1) = 1#1 := by decide
  have hc7 : ¬ k0_cond7 (grid0.coords t0_1) = 1#1 := by decide
  have hT : k0_off10 (grid0.coords t0_1) = ![(0 : Fin 2).val] := by decide
  unfold win hereX heldX flyF1 keptT oweW any
  simp only [bod, cc0__guarded_body_eq_skeleton]; unfold cc0__guarded_body_skel
  simp only [k0_part3_eq_skeleton]
  unfold k0_part3_skel
  iintro ⟨⟨%f3, %e3, H3⟩, ⟨%f4, %e4, H4⟩, ⟨⟨HXl, HXr, Hd10, Hd11⟩, ⟨%gX, %eX, HsX⟩⟩, ⟨%gF1, %s, %eF1, Hd12, HF1⟩, ⟨%gH, %eH, HsH⟩, ⟨%gB, HsB⟩, ⟨%gT, %eT, HsT⟩, ⟨%W, HO⟩⟩
  have hT' := ld_sel A c 0 gT eT (k0_off10_inb _ hc6) hT
  have hchk : ∀ x, k0_chk2 (grid0.coords t0_1) (View.readAt (Elt F) sT.view (Rect.unit (s := S2) (k0_off10 (grid0.coords t0_1)) S1.size (k0_off10_inb _ hc6)).toLoadRect gT x) := by
    intro x
    rw [hT' x]
    exact chk2_ok _ _ (ew_lt A 0)
  sl_exec
  sl_step
  unfold freeF1 hid any
  isplitl [H3]
  · iexists f3; isplitr; · ipureintro; exact e3
    iexact H3
  isplitl [H4]
  · iexists f4; isplitr; · ipureintro; exact e4
    iexact H4
  isplitl [Hd10 HXl Hd11 HXr HsX]
  · iapply (flyX_make A c fX gX (o := k0_off11 (grid0.coords t0_1)) (by decide) (k0_off11_inb _ hc6) _ _ _
      (fun j k => read_x A c fX hX 1 0 _ _ _ rfl j k) (fun j k => read_x A c fX hX 1 1 _ _ _ rfl j k) _ _)
    isplitl [Hd10]; · iexact Hd10
    isplitl [HXl]; · iexact HXl
    isplitl [Hd11]; · iexact Hd11
    isplitl [HXr]; · iexact HXr
    iexact HsX
  isplitl [Hd12 HF1 Hd12_dst]
  · isplitl [HF1]; · iexact HF1
    isplitl [Hd12]; · iexact Hd12
    iexists gF1; iexact Hd12_dst
  isplitl [HsH HsB]
  · isplitl [HsH]
    · iexists _; isplitr; swap; · iexact HsH
      ipureintro
      refine hid_ok A c 0 f3 gX gH gF1 e3 eX eF1 eH (by decide) (by decide) ((congrArg k0_off14 (hT' _)).trans (off14_eq _)) _ _ _ _ _
    · iexists _; isplitr; swap; · iexact HsB
      ipureintro
      refine fb_ok A c 0 f4 gB e4 ((congrArg k0_off15 (hT' _)).trans (off15_eq _)) _
  isplitl [HsT]
  · iexists gT; isplitr; · ipureintro; exact eT
    iexact HsT
  iexists _; iexact HO

set_option sl_exec.dmaWindow true in
/-- The second example's hidden layer. -/
theorem point1b :
    iprop(win c arg3 A.b1 ∗ win c arg4 A.b2 ∗ hereX A c fX 1 ∗ flyF1 A c fF1 (ex A 1) ∗ (∃ g, ⌜statH A c 1 g⌝ ∗ pt c sH fullShare g) ∗ any c sB ∗ keptT A c 1 ∗ oweW c)
    ⊢ wp frame (wpE (defs₀ (F := F)) Variants.none c none) Set.univ
      (bod (F := F) arg2 h2 arg3 h3 arg4 h4 arg5 h5 arg6 h6 arg10 h10 arg11 h11 t0_5)
      (fun _ => iprop(win c arg3 A.b1 ∗ win c arg4 A.b2 ∗ freeX c fX ∗ freeF1 c fF1 ∗ hid A c 1 ∗ keptT A c 1 ∗ oweW c)) := by
  have hc3 : ¬ k0_cond3 (grid0.coords t0_5) = 1#1 := by decide
  have hc6 : k0_cond6 (grid0.coords t0_5) = 1#1 := by decide
  have hc7 : ¬ k0_cond7 (grid0.coords t0_5) = 1#1 := by decide
  have hT : k0_off10 (grid0.coords t0_5) = ![(1 : Fin 2).val] := by decide
  unfold win hereX heldX flyF1 keptT oweW any
  simp only [bod, cc0__guarded_body_eq_skeleton]; unfold cc0__guarded_body_skel
  simp only [k0_part3_eq_skeleton]
  unfold k0_part3_skel
  iintro ⟨⟨%f3, %e3, H3⟩, ⟨%f4, %e4, H4⟩, ⟨⟨HXl, HXr, Hd10, Hd11⟩, ⟨%gX, %eX, HsX⟩⟩, ⟨%gF1, %s, %eF1, Hd12, HF1⟩, ⟨%gH, %eH, HsH⟩, ⟨%gB, HsB⟩, ⟨%gT, %eT, HsT⟩, ⟨%W, HO⟩⟩
  have hT' := ld_sel A c 1 gT eT (k0_off10_inb _ hc6) hT
  have hchk : ∀ x, k0_chk2 (grid0.coords t0_5) (View.readAt (Elt F) sT.view (Rect.unit (s := S2) (k0_off10 (grid0.coords t0_5)) S1.size (k0_off10_inb _ hc6)).toLoadRect gT x) := by
    intro x
    rw [hT' x]
    exact chk2_ok _ _ (ew_lt A 1)
  sl_exec
  sl_step
  unfold freeX heldX freeF1 hid any
  isplitl [H3]
  · iexists f3; isplitr; · ipureintro; exact e3
    iexact H3
  isplitl [H4]
  · iexists f4; isplitr; · ipureintro; exact e4
    iexact H4
  isplitl [Hd10 HXl Hd11 HXr HsX]
  · isplitr [HsX]
    · isplitl [HXl]; · iexact HXl
      isplitl [HXr]; · iexact HXr
      isplitl [Hd10]; · iexact Hd10
      iexact Hd11
    · iexists _; iexact HsX
  isplitl [Hd12 HF1 Hd12_dst]
  · isplitl [HF1]; · iexact HF1
    isplitl [Hd12]; · iexact Hd12
    iexists gF1; iexact Hd12_dst
  isplitl [HsH HsB]
  · isplitl [HsH]
    · iexists _; isplitr; swap; · iexact HsH
      ipureintro
      refine hid_ok A c 1 f3 gX gH gF1 e3 eX eF1 eH (by decide) (by decide) ((congrArg k0_off14 (hT' _)).trans (off14_eq _)) _ _ _ _ _
    · iexists _; isplitr; swap; · iexact HsB
      ipureintro
      refine fb_ok A c 1 f4 gB e4 ((congrArg k0_off15 (hT' _)).trans (off15_eq _)) _
  isplitl [HsT]
  · iexists gT; isplitr; · ipureintro; exact eT
    iexact HsT
  iexists _; iexact HO

set_option sl_exec.dmaWindow true in
/-- The first output block of an example, from the first half of the weight. -/
theorem point2 (b : Fin 2) (t : Fin cfg0.N) (ht : b = 0 ∧ t = t0_2 ∨ b = 1 ∧ t = t0_6) :
    iprop(win c arg5 A.ow ∗ win c arg6 A.ob ∗ (∃ v, win c arg10 v) ∗ flyF2 A c fF2 (ex A b) ∗ hid A c b ∗ keptT A c b ∗ oweW c)
    ⊢ wp frame (wpE (defs₀ (F := F)) Variants.none c none) Set.univ
      (bod (F := F) arg2 h2 arg3 h3 arg4 h4 arg5 h5 arg6 h6 arg10 h10 arg11 h11 t)
      (fun _ => iprop(win c arg5 A.ow ∗ win c arg6 A.ob ∗ win c arg10 (ob A b 0) ∗ midF2 A c fF2 (ex A b) ∗ hid A c b ∗ keptT A c b ∗ oweW c)) := by
  have hc3 : ¬ k0_cond3 (grid0.coords t) = 1#1 := by rcases ht with ⟨-, rfl⟩ | ⟨-, rfl⟩ <;> decide
  have hc6 : ¬ k0_cond6 (grid0.coords t) = 1#1 := by rcases ht with ⟨-, rfl⟩ | ⟨-, rfl⟩ <;> decide
  have hc7 : k0_cond7 (grid0.coords t) = 1#1 := by rcases ht with ⟨-, rfl⟩ | ⟨-, rfl⟩ <;> decide
  have hT : k0_off16 (grid0.coords t) = ![b.val] := by rcases ht with ⟨rfl, rfl⟩ | ⟨rfl, rfl⟩ <;> decide
  unfold win flyF2 tailF2 hid keptT oweW
  simp only [bod, cc0__guarded_body_eq_skeleton]; unfold cc0__guarded_body_skel
  iintro ⟨⟨%f5, %e5, H5⟩, ⟨%f6, %e6, H6⟩, ⟨%v10, %f10, -, H10⟩, ⟨%gF2, %s, %eF2, Hd13, HF2, ⟨%s', %eF2', Hd14, HF2'⟩, HsF2⟩,
    ⟨⟨%gH, %eH, HsH⟩, ⟨%gB, %eB, HsB⟩⟩, ⟨%gT, %eT, HsT⟩, ⟨%W, HO⟩⟩
  have hchk : ∀ x, k0_chk3 (grid0.coords t) (View.readAt (Elt F) sT.view (Rect.unit (s := S2) (k0_off16 (grid0.coords t)) S1.size (k0_off16_inb _ hc7)).toLoadRect gT x) := by
    intro x
    rw [ld_sel A c b gT eT (k0_off16_inb _ hc7) hT x]
    exact chk3_ok t (by rcases ht with ⟨-, h⟩ | ⟨-, h⟩ <;> simp [h]) _ (sel_lt _ _)
  have h20 : k0_off20 (grid0.coords t) = ![1024 * (0 : Fin 2).val, 0] := by rcases ht with ⟨-, rfl⟩ | ⟨-, rfl⟩ <;> decide
  have h21 : k0_off21 (grid0.coords t) = ![1024 * (0 : Fin 2).val, 0] := by rcases ht with ⟨-, rfl⟩ | ⟨-, rfl⟩ <;> decide
  have hout := out_ok A c b 0 f5 f6 f10 gF2 gH gB e5 e6 eF2 eH eB h20 h21 (k0_off20_inb _ hc7) (k0_off21_inb _ hc7)
  rcases ht with ⟨rfl, rfl⟩ | ⟨rfl, rfl⟩
  all_goals
    sl_exec
    sl_step
    unfold midF2 tailF2
    isplitl [H5]
    · iexists f5; isplitr; · ipureintro; exact e5
      iexact H5
    isplitl [H6]
    · iexists f6; isplitr; · ipureintro; exact e6
      iexact H6
    isplitl [H10]
    · iexists _; isplitr; swap; · iexact H10
      ipureintro; exact hout
    isplitl [HF2 Hd13 Hd14 HF2' HsF2]
    · iexists gF2; isplitl [HF2]; · iexact HF2
      isplitl [Hd13]; · iexact Hd13
      isplitl [Hd14 HF2']
      · iexists s'; isplitr; · ipureintro; exact eF2'
        isplitl [Hd14]; · iexact Hd14
        iexact HF2'
      · iexact HsF2
    isplitl [HsH HsB]
    · isplitl [HsH]
      · iexists gH; isplitr; · ipureintro; exact eH
        iexact HsH
      · iexists gB; isplitr; · ipureintro; exact eB
        iexact HsB
    isplitl [HsT]
    · iexists gT; isplitr; · ipureintro; exact eT
      iexact HsT
    iexists _; iexact HO

set_option sl_exec.dmaWindow true in
/-- The second output block of an example, from the second half of the weight. -/
theorem point3 (b : Fin 2) (t : Fin cfg0.N) (ht : b = 0 ∧ t = t0_3 ∨ b = 1 ∧ t = t0_7) :
    iprop(win c arg5 A.ow ∗ win c arg6 A.ob ∗ (∃ v, win c arg10 v) ∗ midF2 A c fF2 (ex A b) ∗ hid A c b ∗ keptT A c b ∗ oweW c)
    ⊢ wp frame (wpE (defs₀ (F := F)) Variants.none c none) Set.univ
      (bod (F := F) arg2 h2 arg3 h3 arg4 h4 arg5 h5 arg6 h6 arg10 h10 arg11 h11 t)
      (fun _ => iprop(win c arg5 A.ow ∗ win c arg6 A.ob ∗ win c arg10 (ob A b 1) ∗ freeF2 c fF2 ∗ any c sH ∗ any c sB ∗ keptT A c b ∗ oweW c)) := by
  have hc3 : ¬ k0_cond3 (grid0.coords t) = 1#1 := by rcases ht with ⟨-, rfl⟩ | ⟨-, rfl⟩ <;> decide
  have hc6 : ¬ k0_cond6 (grid0.coords t) = 1#1 := by rcases ht with ⟨-, rfl⟩ | ⟨-, rfl⟩ <;> decide
  have hc7 : k0_cond7 (grid0.coords t) = 1#1 := by rcases ht with ⟨-, rfl⟩ | ⟨-, rfl⟩ <;> decide
  have hT : k0_off16 (grid0.coords t) = ![b.val] := by rcases ht with ⟨rfl, rfl⟩ | ⟨rfl, rfl⟩ <;> decide
  unfold win midF2 tailF2 hid keptT oweW
  simp only [bod, cc0__guarded_body_eq_skeleton]; unfold cc0__guarded_body_skel
  iintro ⟨⟨%f5, %e5, H5⟩, ⟨%f6, %e6, H6⟩, ⟨%v10, %f10, -, H10⟩, ⟨%gF2, HF2, Hd13, ⟨%s', %eF2', Hd14, HF2'⟩, HsF2⟩,
    ⟨⟨%gH, %eH, HsH⟩, ⟨%gB, %eB, HsB⟩⟩, ⟨%gT, %eT, HsT⟩, ⟨%W, HO⟩⟩
  have hchk : ∀ x, k0_chk3 (grid0.coords t) (View.readAt (Elt F) sT.view (Rect.unit (s := S2) (k0_off16 (grid0.coords t)) S1.size (k0_off16_inb _ hc7)).toLoadRect gT x) := by
    intro x
    rw [ld_sel A c b gT eT (k0_off16_inb _ hc7) hT x]
    exact chk3_ok t (by rcases ht with ⟨-, h⟩ | ⟨-, h⟩ <;> simp [h]) _ (sel_lt _ _)
  have h20 : k0_off20 (grid0.coords t) = ![1024 * (1 : Fin 2).val, 0] := by rcases ht with ⟨-, rfl⟩ | ⟨-, rfl⟩ <;> decide
  have h21 : k0_off21 (grid0.coords t) = ![1024 * (1 : Fin 2).val, 0] := by rcases ht with ⟨-, rfl⟩ | ⟨-, rfl⟩ <;> decide
  have hout := out_ok A c b 1 f5 f6 f10 gF2 gH gB e5 e6 eF2' eH eB h20 h21 (k0_off20_inb _ hc7) (k0_off21_inb _ hc7)
  rcases ht with ⟨rfl, rfl⟩ | ⟨rfl, rfl⟩
  all_goals
    sl_exec
    sl_step
    unfold freeF2 any
    isplitl [H5]
    · iexists f5; isplitr; · ipureintro; exact e5
      iexact H5
    isplitl [H6]
    · iexists f6; isplitr; · ipureintro; exact e6
      iexact H6
    isplitl [H10]
    · iexists _; isplitr; swap; · iexact H10
      ipureintro; exact hout
    isplitl [HF2 Hd13 Hd14 HF2' HsF2]
    · isplitl [HF2]; · iexact HF2
      isplitl [HF2']; · iexact HF2'
      isplitl [Hd13]; · iexact Hd13
      isplitl [Hd14]; · iexact Hd14
      iexists gF2; iexact HsF2
    isplitl [HsH]
    · iexists gH; iexact HsH
    isplitl [HsB]
    · iexists gB; iexact HsB
    isplitl [HsT]
    · iexists gT; isplitr; · ipureintro; exact eT
      iexact HsT
    iexists _; iexact HO

set_option sl_exec.dmaWindow true in
/-- The first example's statistics and choice, and the copies of its weights started. -/
theorem point0a (hX : mX.view.read (Elt F) fX = A.x) (hF1 : mF1.view.read (Elt F) fF1 = A.w1) (hF2 : mF2.view.read (Elt F) fF2 = A.w2) :
    iprop(win c arg2 A.rw ∗ freeX c fX ∗ freeF1 c fF1 ∗ freeF2 c fF2 ∗ any c sH ∗ any c sP ∗ any c sT ∗ pool c ∗ oweW c)
    ⊢ wp frame (wpE (defs₀ (F := F)) Variants.none c none) Set.univ
      (bod (F := F) arg2 h2 arg3 h3 arg4 h4 arg5 h5 arg6 h6 arg10 h10 arg11 h11 t0_0)
      (fun _ => iprop(win c arg2 A.rw ∗ hereX A c fX 0 ∗ flyF1 A c fF1 (ex A 0) ∗ flyF2 A c fF2 (ex A 0) ∗ (∃ g, ⌜statH A c 0 g⌝ ∗ pt c sH fullShare g)
        ∗ keptP A c ∗ keptT A c 0 ∗ pool c ∗ oweW c)) := by
  have hc3 : k0_cond3 (grid0.coords t0_0) = 1#1 := by decide
  have hc5 : ¬ k0_cond5 (grid0.coords t0_0) = 1#1 := by decide
  have hc6 : ¬ k0_cond6 (grid0.coords t0_0) = 1#1 := by decide
  have hc7 : ¬ k0_cond7 (grid0.coords t0_0) = 1#1 := by decide
  have hchk : ∀ v88 v92 : FVec F S1x10 .f32, k0_chk1 (grid0.coords t0_0) (extractAt ![0, 0] (k0_pay1 v88 (iota .tc S1x10 32 [1] iota_S1x10_d1_w32) v92) inpos_S1x1_p0_0) :=
    fun v88 v92 => chk1_ok _ _ (sel_lt v88 v92)
  unfold win freeX heldX freeF1 freeF2 any pool oweW
  simp only [bod, cc0__guarded_body_eq_skeleton]; unfold cc0__guarded_body_skel
  simp only [k0_part1_eq_skeleton, k0_part2_eq_skeleton]
  unfold k0_part1_skel k0_part2_skel
  iintro ⟨⟨%f2, %e2, H2⟩, ⟨⟨HXl, HXr, Hd10, Hd11⟩, ⟨%gX, HsX⟩⟩, ⟨HF1, Hd12, ⟨%gF1, HsF1⟩⟩, ⟨HF2l, HF2r, Hd13, Hd14, ⟨%gF2, HsF2⟩⟩, ⟨%gH, HsH⟩, ⟨%gP, HsP⟩, ⟨%gT, HsT⟩, ⟨Hd8, Hd9⟩, ⟨%W, HO⟩⟩
  sl_exec
  have h33 : point0a.sl.v33 c fX hc3 = xc A 0 0 :=
    in0_ok A (v := sX.view) 0 (d0 := point0a.sl.dma0 c fX) (d1 := point0a.sl.dma0_1 c fX) (fun j k => read_x A c fX hX 0 0 _ _ _ rfl j k) (by decide) _
  have h53 : point0a.sl.v53 c fX hc3 = xc A 0 1 :=
    in1_ok A (v := sX.view) 0 (d1 := point0a.sl.dma0_1 c fX) (fun j k => read_x A c fX hX 0 1 _ _ _ rfl j k) (by decide) _ _
  have hw := ew_ok A c 0 h33 h53 f2 e2
  sl_step
  isplitl [H2]
  · iexists f2; isplitr; · ipureintro; exact e2
    iexact H2
  isplitl [HXl HXr Hd10 Hd11 HsX]
  · unfold hereX heldX
    isplitl [HXl HXr Hd10 Hd11]
    · isplitl [HXl]; · iexact HXl
      isplitl [HXr]; · iexact HXr
      isplitl [Hd10]; · iexact Hd10
      iexact Hd11
    iexists _; isplitr; swap; · iexact HsX
    ipureintro
    exact hereX_ok A c gX (fun j k => read_x A c fX hX 0 0 _ _ _ rfl j k) (fun j k => read_x A c fX hX 0 1 _ _ _ rfl j k)
  isplitl [Hd12 HF1]
  · iapply (flyF1_make A c fF1 gF1 (ex A 0) _ (read_f1 A c fF1 hF1 (ex A 0) _ _ _ (off7_eq A 0 hw)) _)
    isplitl [Hd12]; · iexact Hd12
    iexact HF1
  isplitl [Hd13 HF2l Hd14 HF2r HsF2]
  · iapply (flyF2_make A c fF2 gF2 (ex A 0) _ _ (read_f2 A c fF2 hF2 (ex A 0) 0 _ _ _ (off8_eq A 0 hw)) (read_f2 A c fF2 hF2 (ex A 0) 1 _ _ _ (off9_eq A 0 hw)) _ _)
    isplitl [Hd13]; · iexact Hd13
    isplitl [HF2l]; · iexact HF2l
    isplitl [Hd14]; · iexact Hd14
    isplitl [HF2r]; · iexact HF2r
    iexact HsF2
  isplitl [HsH]
  · iexists _; isplitr; swap; · iexact HsH
    ipureintro
    exact stat_ok A c 0 gH h33 h53
  isplitl [HsP]
  · unfold keptP
    iexists _; isplitr; swap; · iexact HsP
    ipureintro
    exact keptP_ok A c 0 gP (pr_ok A c 0 h33 h53 f2 e2)
  isplitl [HsT]
  · unfold keptT
    iexists _; isplitr; swap; · iexact HsT
    ipureintro
    exact selT_ok A c 0 gT hw (by decide) _
  isplitl [Hd8 Hd9]
  · isplitl [Hd8]; · iexact Hd8
    iexact Hd9
  iexists _; iexact HO

/-- The balance term, from what both examples left. -/
theorem aux_ok (M : Memref sig .tc .vmem S1x1 .f32) (f : M.view.ty.Contents (Elt F)) {p1 m1 p0 : Vec F S1x10 .f32} {w : BitVec 32}
    (h1 : p1 = pr A 1) (hm : m1 = pm A 1) (h0 : p0 = pr A 0) (hw : w = ew A 0) :
    M.view.read (Elt F) (M.view.writes (Elt F) f [⟨Rect.unit (s := S1x1) ![0, 0] S1x1.size inb_S1x1_S1x1_0_0, k0_pay3 p1 lanes m1 p0 w⟩]) = ax A := by
  subst h1 hm h0 hw
  exact wr_whole M.view f inb_S1x1_S1x1_0_0 (by decide) _

set_option sl_exec.dmaWindow true in
/-- The second example's statistics, the balance term and choice, and the copies of its weights started. -/
theorem point0b (hF1 : mF1.view.read (Elt F) fF1 = A.w1) (hF2 : mF2.view.read (Elt F) fF2 = A.w2) :
    iprop(win c arg2 A.rw ∗ (∃ v, win c arg11 v) ∗ flyX A c fX ∗ freeF1 c fF1 ∗ freeF2 c fF2 ∗ any c sH ∗ keptP A c ∗ keptT A c 0 ∗ pool c ∗ oweW c)
    ⊢ wp frame (wpE (defs₀ (F := F)) Variants.none c none) Set.univ
      (bod (F := F) arg2 h2 arg3 h3 arg4 h4 arg5 h5 arg6 h6 arg10 h10 arg11 h11 t0_4)
      (fun _ => iprop(win c arg2 A.rw ∗ win c arg11 (ax A) ∗ hereX A c fX 1 ∗ flyF1 A c fF1 (ex A 1) ∗ flyF2 A c fF2 (ex A 1) ∗ (∃ g, ⌜statH A c 1 g⌝ ∗ pt c sH fullShare g)
        ∗ any c sP ∗ keptT A c 1 ∗ pool c ∗ oweW c)) := by
  have hc3 : k0_cond3 (grid0.coords t0_4) = 1#1 := by decide
  have hc5 : k0_cond5 (grid0.coords t0_4) = 1#1 := by decide
  have hc6 : ¬ k0_cond6 (grid0.coords t0_4) = 1#1 := by decide
  have hc7 : ¬ k0_cond7 (grid0.coords t0_4) = 1#1 := by decide
  have hchk : ∀ v88 v92 : FVec F S1x10 .f32, k0_chk1 (grid0.coords t0_4) (extractAt ![0, 0] (k0_pay1 v88 (iota .tc S1x10 32 [1] iota_S1x10_d1_w32) v92) inpos_S1x1_p0_0) :=
    fun v88 v92 => chk1_ok _ _ (sel_lt v88 v92)
  unfold win flyX freeF1 freeF2 any keptP keptT pool oweW
  simp only [bod, cc0__guarded_body_eq_skeleton]; unfold cc0__guarded_body_skel
  simp only [k0_part1_eq_skeleton, k0_part2_eq_skeleton]
  unfold k0_part1_skel k0_part2_skel
  iintro ⟨⟨%f2, %e2, H2⟩, ⟨%v11, %f11, %e11, H11⟩, ⟨%gX, %s, %s', %eX, Hd10, HXl, Hd11, HXr, HsX⟩, ⟨HF1, Hd12, ⟨%gF1, HsF1⟩⟩, ⟨HF2l, HF2r, Hd13, Hd14, ⟨%gF2, HsF2⟩⟩, ⟨%gH, HsH⟩, ⟨%gP, %eP, HsP⟩, ⟨%gT, %eT, HsT⟩, ⟨Hd8, Hd9⟩, ⟨%W, HO⟩⟩
  sl_exec
  have h33 := ldX_ok A c 1 0 gX eX.1 (o := k0_off4 (grid0.coords t0_4) 0#32) (by decide) (k0_off4_inb _ hc3 0)
  have h53 := ldX_ok A c 1 1 gX eX.2 (o := k0_off4 (grid0.coords t0_4) 1#32) (by decide) (k0_off4_inb _ hc3 1)
  have hw := ew_ok A c 1 h33 h53 f2 e2
  sl_step
  isplitl [H2]
  · iexists f2; isplitr; · ipureintro; exact e2
    iexact H2
  isplitl [H11]
  · iexists _; isplitr; swap; · iexact H11
    ipureintro
    exact aux_ok A arg11 f11 (pr_ok A c 1 h33 h53 f2 e2) (pm_ok A c 1 h33 h53 f2 e2) ((ld_whole sP.view gP _ (by decide)).trans eP) (ld_sel A c 0 gT eT _ rfl _)
  isplitl [HXl HXr Hd10 Hd11 HsX]
  · unfold hereX heldX
    isplitl [HXl HXr Hd10 Hd11]
    · isplitl [HXl]; · iexact HXl
      isplitl [HXr]; · iexact HXr
      isplitl [Hd10]; · iexact Hd10
      iexact Hd11
    iexists _; isplitr; swap; · iexact HsX
    ipureintro
    exact eX
  isplitl [Hd12 HF1]
  · iapply (flyF1_make A c fF1 gF1 (ex A 1) _ (read_f1 A c fF1 hF1 (ex A 1) _ _ _ (off7_eq A 1 hw)) _)
    isplitl [Hd12]; · iexact Hd12
    iexact HF1
  isplitl [Hd13 HF2l Hd14 HF2r HsF2]
  · iapply (flyF2_make A c fF2 gF2 (ex A 1) _ _ (read_f2 A c fF2 hF2 (ex A 1) 0 _ _ _ (off8_eq A 1 hw)) (read_f2 A c fF2 hF2 (ex A 1) 1 _ _ _ (off9_eq A 1 hw)) _ _)
    isplitl [Hd13]; · iexact Hd13
    isplitl [HF2l]; · iexact HF2l
    isplitl [Hd14]; · iexact Hd14
    isplitl [HF2r]; · iexact HF2r
    iexact HsF2
  isplitl [HsH]
  · iexists _; isplitr; swap; · iexact HsH
    ipureintro
    exact stat_ok A c 1 gH h33 h53
  isplitl [HsP]
  · iexists _; iexact HsP
  isplitl [HsT]
  · iexists _; isplitr; swap; · iexact HsT
    ipureintro
    exact selT_ok A c 1 gT hw (by decide) _
  isplitl [Hd8 Hd9]
  · isplitl [Hd8]; · iexact Hd8
    iexact Hd9
  iexists _; iexact HO

end Points
end Cert.Guarded.Hand

end
-- ==== Proof.Run.lean ====
module

public import proofs.«01_k».proof.Proof.Points
public import proofs.«01_k».proof.Proof.Gen.Guarded.Launch
public import proofs.«01_k».proof.Proof.Gen.Guarded.Skeleton
public import proofs.«01_k».proof.Proof.Gen.Guarded.Points
public import proofs.«01_k».proof.Proof.Gen.Guarded.Frame
public import Idealize.ShloMosaic.Lib.Pipeline.FrameSuffixV
public import Idealize.ShloMosaic.Lib.Pipeline.FrameBody
public import Idealize.ShloMosaic.Lib.Ring
public import Idealize.ShloMosaic.Lib.Tactic
public import Idealize.ShloMosaic.Lib.WordCmp
public import Idealize.ShloMosaic.Lib.PointwiseCore

@[expose] public section

set_option maxRecDepth 16384

noncomputable section

namespace Cert.Guarded.Hand

open Cert.Guarded Cert.Guarded.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The inputs as the launch finds them. -/
def inp (c : Dev nD) : In F where
  x := mX.view.read (Elt F) (V m c main_arg0)
  rw := iblk m c 0 t0_0
  w1 := mF1.view.read (Elt F) (V m c main_arg2)
  b1 := iblk m c 1 t0_0
  w2 := mF2.view.read (Elt F) (V m c main_arg4)
  b2 := iblk m c 2 t0_0
  ow := iblk m c 3 t0_0
  ob := iblk m c 4 t0_0

theorem iblk_0 (c : Dev nD) (t : Fin cfg0.N) : iblk m c 0 t = (inp m c).rw := rfl
theorem iblk_1 (c : Dev nD) (t : Fin cfg0.N) : iblk m c 1 t = (inp m c).b1 := rfl
theorem iblk_2 (c : Dev nD) (t : Fin cfg0.N) : iblk m c 2 t = (inp m c).b2 := rfl
theorem iblk_3 (c : Dev nD) (t : Fin cfg0.N) : iblk m c 3 t = (inp m c).ow := rfl
theorem iblk_4 (c : Dev nD) (t : Fin cfg0.N) : iblk m c 4 t = (inp m c).ob := rfl

/-- What the body leaves in the output's buffer at a point. -/
def oAt (c : Dev nD) (t : Fin cfg0.N) : Vec F S1x1024x768 .f32 :=
  ob (inp m c) ⟨t.val / 4, by have := t.isLt; have : cfg0.N = 8 := N_0; omega⟩ ⟨t.val % 2, Nat.mod_lt _ (by decide)⟩

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => (inp m c).rw
    | ⟨1, _⟩ => (inp m c).b1
    | ⟨2, _⟩ => (inp m c).b2
    | ⟨3, _⟩ => (inp m c).ow
    | ⟨4, _⟩ => (inp m c).ob
    | ⟨5, _⟩ => oAt m c t
    | ⟨6, _⟩ => ax (inp m c)
  Φ t := st (inp m c) c (V m c main_arg0) (V m c main_arg2) (V m c main_arg4) t.val
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = (inp m c).rw :=
  ((dats m 0 c).before_in_eq_fetched 0 rfl (fun _ => rfl) (fun _ _ _ => rfl) (fun t => rfl) t d).trans rfl
theorem before1 (c : Dev nD) (t : Fin cfg0.N) (d) : (dats m 0 c).before 1 t d = (inp m c).b1 :=
  ((dats m 0 c).before_in_eq_fetched 1 rfl (fun _ => rfl) (fun _ _ _ => rfl) (fun t => rfl) t d).trans rfl
theorem before2 (c : Dev nD) (t : Fin cfg0.N) (d) : (dats m 0 c).before 2 t d = (inp m c).b2 :=
  ((dats m 0 c).before_in_eq_fetched 2 rfl (fun _ => rfl) (fun _ _ _ => rfl) (fun t => rfl) t d).trans rfl
theorem before3 (c : Dev nD) (t : Fin cfg0.N) (d) : (dats m 0 c).before 3 t d = (inp m c).ow :=
  ((dats m 0 c).before_in_eq_fetched 3 rfl (fun _ => rfl) (fun _ _ _ => rfl) (fun t => rfl) t d).trans rfl
theorem before4 (c : Dev nD) (t : Fin cfg0.N) (d) : (dats m 0 c).before 4 t d = (inp m c).ob :=
  ((dats m 0 c).before_in_eq_fetched 4 rfl (fun _ => rfl) (fun _ _ _ => rfl) (fun t => rfl) t d).trans rfl
/-- The balance term's buffer keeps it to the last point. -/
theorem before6_step (c : Dev nD) (t : Fin cfg0.N) (ht : t.val ≠ 0) (hf : (cfg0.win 6).fetch t = false)
    (hl : (cfg0.win 6).flush ⟨t.val - 1, Nat.lt_of_le_of_lt (Nat.sub_le _ _) t.isLt⟩ = false)
    (hi : cfg0.idle 6 (cfg0.grid.coords ⟨t.val - 1, Nat.lt_of_le_of_lt (Nat.sub_le _ _) t.isLt⟩) = true) (d) :
    (dats m 0 c).before 6 t d = (dats m 0 c).before 6 ⟨t.val - 1, Nat.lt_of_le_of_lt (Nat.sub_le _ _) t.isLt⟩ d := by
  rw [Dat.before_of_pos _ _ _ ht hf, hl, if_neg Bool.false_ne_true]
  unfold Dat.left
  rw [hi]
theorem before6 (c : Dev nD) (d) : (dats m 0 c).before 6 t0_7 d = ax (inp m c) := by
  rw [before6_step m c t0_7 (by decide) (by decide) (by decide) (by decide), before6_step m c _ (by decide) (by decide) (by decide) (by decide),
    Dat.before_of_pos _ _ _ (by decide) (by decide), if_neg (by decide)]
  unfold Dat.left
  rw [show cfg0.idle 6 _ = false by decide]
  show Dat.kept _ _ _ _ = _
  unfold Dat.kept
  rw [Pipeline.fill_of_clip_none 6 _ (fun a => rfl) d ((dats m 0 c).after 6 _), Window.fill_cut]
  rfl

theorem after5 (c : Dev nD) (t : Fin cfg0.N) : (dats m 0 c).after 5 t = oAt m c t := rfl

/-- A window's buffer after the body. -/
def left (c : Dev nD) (w : Fin cfg0.W) (t : Fin cfg0.N) : sProp 𝕄 :=
  match cfg0.idle w (cfg0.grid.coords t) with
  | true => match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)
/-- A window's buffer before the body. -/
def found (c : Dev nD) (w : Fin cfg0.W) (t : Fin cfg0.N) : sProp 𝕄 :=
  iprop(∃ d, owns (c : Thread nD τ) ((cfg0.win w).stage (cfg0.slots t w)) fullShare ((dats m 0 c).before w t d))

theorem win_owns (c : Dev nD) {sp : Space} {S : Shape} {e : EltTy} (M : Memref sig .tc sp S e) (v : Vec F S e) :
    owns (c : Thread nD τ) M fullShare v ⊢ win c M v := .rfl
theorem found0 (c : Dev nD) (t : Fin cfg0.N) : found m c 0 t ⊢ win c (st0_0 t) (inp m c).rw := by
  unfold found; iintro ⟨%d, H⟩; rw [before0]; iapply (win_owns c _ _); iexact H
theorem found1 (c : Dev nD) (t : Fin cfg0.N) : found m c 1 t ⊢ win c (st0_1 t) (inp m c).b1 := by
  unfold found; iintro ⟨%d, H⟩; rw [before1]; iapply (win_owns c _ _); iexact H
theorem found2 (c : Dev nD) (t : Fin cfg0.N) : found m c 2 t ⊢ win c (st0_2 t) (inp m c).b2 := by
  unfold found; iintro ⟨%d, H⟩; rw [before2]; iapply (win_owns c _ _); iexact H
theorem found3 (c : Dev nD) (t : Fin cfg0.N) : found m c 3 t ⊢ win c (st0_3 t) (inp m c).ow := by
  unfold found; iintro ⟨%d, H⟩; rw [before3]; iapply (win_owns c _ _); iexact H
theorem found4 (c : Dev nD) (t : Fin cfg0.N) : found m c 4 t ⊢ win c (st0_4 t) (inp m c).ob := by
  unfold found; iintro ⟨%d, H⟩; rw [before4]; iapply (win_owns c _ _); iexact H
theorem found5 (c : Dev nD) (t : Fin cfg0.N) : found m c 5 t ⊢ iprop(∃ v, win c (st0_5 t) v) := by
  unfold found; iintro ⟨%d, H⟩; iexists _; iapply (win_owns c _ _); iexact H
theorem found6 (c : Dev nD) (t : Fin cfg0.N) : found m c 6 t ⊢ iprop(∃ v, win c (st0_6 t) v) := by
  unfold found; iintro ⟨%d, H⟩; iexists _; iapply (win_owns c _ _); iexact H
theorem left_idle (c : Dev nD) (w : Fin cfg0.W) (t : Fin cfg0.N) (hi : cfg0.idle w (cfg0.grid.coords t) = true) (hf : (cfg0.win w).flush t = false) :
    found m c w t ⊢ left m c w t := by
  unfold left; rw [hi, hf]; exact .rfl
theorem left_live (c : Dev nD) (w : Fin cfg0.W) (t : Fin cfg0.N) (hi : cfg0.idle w (cfg0.grid.coords t) = false) :
    win c ((cfg0.win w).stage (cfg0.slots t w)) ((dats m 0 c).after w t) ⊢ left m c w t := by
  unfold left; rw [hi]; exact .rfl
theorem left_last (c : Dev nD) : found m c 6 t0_7 ⊢ left m c 6 t0_7 := by
  unfold left; rw [show cfg0.idle 6 _ = true by decide, show (cfg0.win 6).flush t0_7 = true by decide]
  unfold found; iintro ⟨%d, H⟩; rw [before6]; iexact H

/-- The five inputs' buffers. -/
def ins (c : Dev nD) (t : Fin cfg0.N) : sProp 𝕄 :=
  iprop(win c (st0_0 t) (inp m c).rw ∗ win c (st0_1 t) (inp m c).b1 ∗ win c (st0_2 t) (inp m c).b2 ∗ win c (st0_3 t) (inp m c).ow ∗ win c (st0_4 t) (inp m c).ob)
def bodyPre (c : Dev nD) (t : Fin cfg0.N) : sProp 𝕄 :=
  iprop((dats m 0 c).Φ t.castSucc ∗ (dats m 0 c).owesAt () t.castSucc ∗ found m c 0 t ∗ found m c 1 t ∗ found m c 2 t ∗ found m c 3 t ∗ found m c 4 t ∗ found m c 5 t ∗ found m c 6 t)
def bodyPost (c : Dev nD) (t : Fin cfg0.N) : sProp 𝕄 :=
  iprop((dats m 0 c).Φ t.succ ∗ (dats m 0 c).owesAt () t.succ ∗ left m c 0 t ∗ left m c 1 t ∗ left m c 2 t ∗ left m c 3 t ∗ left m c 4 t ∗ left m c 5 t ∗ left m c 6 t)
/-- The state at `n`. -/
abbrev sta (c : Dev nD) (n : ℕ) : sProp 𝕄 := st (inp m c) c (V m c main_arg0) (V m c main_arg2) (V m c main_arg4) n

theorem sta_in (c : Dev nD) (t : Fin cfg0.N) : (dats m 0 c).Φ t.castSucc ⊢ sta m c t.val := .rfl
theorem sta_out (c : Dev nD) (t : Fin cfg0.N) : sta m c (t.val + 1) ⊢ (dats m 0 c).Φ t.succ := .rfl
theorem open_pre (c : Dev nD) (t : Fin cfg0.N) : bodyPre m c t ⊢ iprop(sta m c t.val ∗ oweW c ∗ ins m c t ∗ found m c 5 t ∗ found m c 6 t) := by
  unfold bodyPre ins oweW Dat.owesAt Pipeline.owesWithin
  iintro ⟨Hs, ⟨%W, -, HW⟩, H0, H1, H2, H3, H4, H5, H6⟩
  isplitl [Hs]; · iapply (sta_in m c t); iexact Hs
  isplitl [HW]; · iexists W; iexact HW
  isplitl [H0 H1 H2 H3 H4]
  · isplitl [H0]; · iapply (found0 m c t); iexact H0
    isplitl [H1]; · iapply (found1 m c t); iexact H1
    isplitl [H2]; · iapply (found2 m c t); iexact H2
    isplitl [H3]; · iapply (found3 m c t); iexact H3
    iapply (found4 m c t); iexact H4
  isplitl [H5]; · iexact H5
  iexact H6
theorem close_post (c : Dev nD) (t : Fin cfg0.N) : iprop(sta m c (t.val + 1) ∗ oweW c ∗ ins m c t ∗ left m c 5 t ∗ left m c 6 t) ⊢ bodyPost m c t := by
  unfold bodyPost ins oweW Dat.owesAt Pipeline.owesWithin
  iintro ⟨Hs, ⟨%W, HW⟩, ⟨H0, H1, H2, H3, H4⟩, H5, H6⟩
  isplitl [Hs]; · iapply (sta_out m c t); iexact Hs
  isplitl [HW]
  · iexists W; isplitr; · ipureintro; exact fun _ _ => Or.inl trivial
    iexact HW
  isplitl [H0]; · iapply (left_live m c 0 t rfl); iexact H0
  isplitl [H1]; · iapply (left_live m c 1 t rfl); iexact H1
  isplitl [H2]; · iapply (left_live m c 2 t rfl); iexact H2
  isplitl [H3]; · iapply (left_live m c 3 t rfl); iexact H3
  isplitl [H4]; · iapply (left_live m c 4 t rfl); iexact H4
  isplitl [H5]; · iexact H5
  iexact H6

/-- A triple used inside a larger state. -/
theorem inside {p : Prog (TpuEff nD τ sig (Elt F) Λ₀ .tc) PUnit} {c : Dev nD} {P Q K : sProp 𝕄}
    (h : P ⊢ wp frame (wpE (defs₀ (F := F)) Variants.none c none) Set.univ p (fun _ => Q)) :
    iprop(P ∗ (Q -∗ K)) ⊢ wp frame (wpE (defs₀ (F := F)) Variants.none c none) Set.univ p (fun _ => K) := by
  refine (sep_mono_left h).trans ((wp_frame_r _ _ _).trans (wp_mono _ _ _ fun _ => ?_))
  exact sep_symm.trans (wand_elim .rfl)

theorem hX (c : Dev nD) : mX.view.read (Elt F) (V m c main_arg0) = (inp m c).x := rfl
theorem hF1 (c : Dev nD) : mF1.view.read (Elt F) (V m c main_arg2) = (inp m c).w1 := rfl
theorem hF2 (c : Dev nD) : mF2.view.read (Elt F) (V m c main_arg4) = (inp m c).w2 := rfl

/-- The triple of a point, on what the obligation has been opened to. -/
abbrev Step (c : Dev nD) (t : Fin cfg0.N) (P Q : sProp 𝕄) (O6 : sProp 𝕄) : Prop :=
  iprop(P ∗ oweW c ∗ ins m c t ∗ found m c 5 t ∗ found m c 6 t)
    ⊢ wp frame (wpE (defs₀ (F := F)) Variants.none c none) Set.univ (bodyAt0 t) (fun _ => iprop(Q ∗ oweW c ∗ ins m c t ∗ left m c 5 t ∗ O6))

theorem step0 (c : Dev nD) : Step m c t0_0
    iprop(freeX c (V m c main_arg0) ∗ freeF1 c (V m c main_arg2) ∗ freeF2 c (V m c main_arg4) ∗ any c sH ∗ any c sB ∗ any c sP ∗ any c sT ∗ pool c)
    iprop(hereX (inp m c) c (V m c main_arg0) 0 ∗ flyF1 (inp m c) c (V m c main_arg2) (ex (inp m c) 0) ∗ flyF2 (inp m c) c (V m c main_arg4) (ex (inp m c) 0)
      ∗ (∃ g, ⌜statH (inp m c) c 0 g⌝ ∗ pt c sH fullShare g) ∗ any c sB ∗ keptP (inp m c) c ∗ keptT (inp m c) c 0 ∗ pool c)
     (found m c 6 t0_0) := by
  unfold Step ins
  iintro ⟨⟨HX, H1, H2, HH, HB, HP, HT, Hp⟩, HO, ⟨I0, I1, I2, I3, I4⟩, O5, O6⟩
  iapply (inside (point0a (inp m c) c _ _ _ _ _ _ _ _ _ _ _ _ _ _ _ _ _ (hX m c) (hF1 m c) (hF2 m c)))
  isplitl [I0 HX H1 H2 HH HP HT Hp HO]
  · isplitl [I0]; · iexact I0
    isplitl [HX]; · iexact HX
    isplitl [H1]; · iexact H1
    isplitl [H2]; · iexact H2
    isplitl [HH]; · iexact HH
    isplitl [HP]; · iexact HP
    isplitl [HT]; · iexact HT
    isplitl [Hp]; · iexact Hp
    iexact HO
  iintro ⟨I0, HX, H1, H2, HH, HP, HT, Hp, HO⟩
  isplitl [HX H1 H2 HH HB HP HT Hp]
  · isplitl [HX]; · iexact HX
    isplitl [H1]; · iexact H1
    isplitl [H2]; · iexact H2
    isplitl [HH]; · iexact HH
    isplitl [HB]; · iexact HB
    isplitl [HP]; · iexact HP
    isplitl [HT]; · iexact HT
    iexact Hp
  isplitl [HO]; · iexact HO
  isplitl [I0 I1 I2 I3 I4]
  · isplitl [I0]; · iexact I0
    isplitl [I1]; · iexact I1
    isplitl [I2]; · iexact I2
    isplitl [I3]; · iexact I3
    iexact I4
  isplitl [O5]; · iapply (left_idle m c 5 t0_0 (by decide) (by decide)); iexact O5
  iexact O6

theorem step4 (c : Dev nD) : Step m c t0_4
    iprop(flyX (inp m c) c (V m c main_arg0) ∗ freeF1 c (V m c main_arg2) ∗ freeF2 c (V m c main_arg4) ∗ any c sH ∗ any c sB ∗ keptP (inp m c) c ∗ keptT (inp m c) c 0 ∗ pool c)
    iprop(hereX (inp m c) c (V m c main_arg0) 1 ∗ flyF1 (inp m c) c (V m c main_arg2) (ex (inp m c) 1) ∗ flyF2 (inp m c) c (V m c main_arg4) (ex (inp m c) 1)
      ∗ (∃ g, ⌜statH (inp m c) c 1 g⌝ ∗ pt c sH fullShare g) ∗ any c sB ∗ any c sP ∗ keptT (inp m c) c 1 ∗ pool c)
     (left m c 6 t0_4) := by
  unfold Step ins
  iintro ⟨⟨HX, H1, H2, HH, HB, HP, HT, Hp⟩, HO, ⟨I0, I1, I2, I3, I4⟩, O5, O6⟩
  iapply (inside (point0b (inp m c) c _ _ _ _ _ _ _ _ _ _ _ _ _ _ _ _ _ (hF1 m c) (hF2 m c)))
  isplitl [I0 HX H1 H2 HH HP HT Hp HO O6]
  · isplitl [I0]; · iexact I0
    isplitl [O6]; · iapply (found6 m c t0_4); iexact O6
    isplitl [HX]; · iexact HX
    isplitl [H1]; · iexact H1
    isplitl [H2]; · iexact H2
    isplitl [HH]; · iexact HH
    isplitl [HP]; · iexact HP
    isplitl [HT]; · iexact HT
    isplitl [Hp]; · iexact Hp
    iexact HO
  iintro ⟨I0, O6, HX, H1, H2, HH, HP, HT, Hp, HO⟩
  isplitl [HX H1 H2 HH HB HP HT Hp]
  · isplitl [HX]; · iexact HX
    isplitl [H1]; · iexact H1
    isplitl [H2]; · iexact H2
    isplitl [HH]; · iexact HH
    isplitl [HB]; · iexact HB
    isplitl [HP]; · iexact HP
    isplitl [HT]; · iexact HT
    iexact Hp
  isplitl [HO]; · iexact HO
  isplitl [I0 I1 I2 I3 I4]
  · isplitl [I0]; · iexact I0
    isplitl [I1]; · iexact I1
    isplitl [I2]; · iexact I2
    isplitl [I3]; · iexact I3
    iexact I4
  isplitl [O5]; · iapply (left_idle m c 5 t0_4 (by decide) (by decide)); iexact O5
  iapply (left_live m c 6 t0_4 (by decide)); iexact O6

theorem step1 (c : Dev nD) (t : Fin cfg0.N) (b : Fin 2) {X P : sProp 𝕄} (hi : cfg0.idle 5 (cfg0.grid.coords t) = true) (hf : (cfg0.win 5).flush t = false)
    (h : iprop(win c (st0_1 t) (inp m c).b1 ∗ win c (st0_2 t) (inp m c).b2 ∗ hereX (inp m c) c (V m c main_arg0) b ∗ flyF1 (inp m c) c (V m c main_arg2) (ex (inp m c) b)
        ∗ (∃ g, ⌜statH (inp m c) c b g⌝ ∗ pt c sH fullShare g) ∗ any c sB ∗ keptT (inp m c) c b ∗ oweW c)
      ⊢ wp frame (wpE (defs₀ (F := F)) Variants.none c none) Set.univ (bodyAt0 t)
        (fun _ => iprop(win c (st0_1 t) (inp m c).b1 ∗ win c (st0_2 t) (inp m c).b2 ∗ X ∗ freeF1 c (V m c main_arg2) ∗ hid (inp m c) c b ∗ keptT (inp m c) c b ∗ oweW c))) :
    Step m c t iprop(hereX (inp m c) c (V m c main_arg0) b ∗ flyF1 (inp m c) c (V m c main_arg2) (ex (inp m c) b) ∗ flyF2 (inp m c) c (V m c main_arg4) (ex (inp m c) b)
        ∗ (∃ g, ⌜statH (inp m c) c b g⌝ ∗ pt c sH fullShare g) ∗ any c sB ∗ P ∗ keptT (inp m c) c b ∗ pool c)
      iprop(X ∗ freeF1 c (V m c main_arg2) ∗ flyF2 (inp m c) c (V m c main_arg4) (ex (inp m c) b) ∗ hid (inp m c) c b ∗ P ∗ keptT (inp m c) c b ∗ pool c) (found m c 6 t) := by
  unfold Step ins
  iintro ⟨⟨HX, H1, H2, HH, HB, HP, HT, Hp⟩, HO, ⟨I0, I1, I2, I3, I4⟩, O5, O6⟩
  iapply (inside h)
  isplitl [I1 I2 HX H1 HH HB HT HO]
  · isplitl [I1]; · iexact I1
    isplitl [I2]; · iexact I2
    isplitl [HX]; · iexact HX
    isplitl [H1]; · iexact H1
    isplitl [HH]; · iexact HH
    isplitl [HB]; · iexact HB
    isplitl [HT]; · iexact HT
    iexact HO
  iintro ⟨I1, I2, HX, H1, HH, HT, HO⟩
  isplitl [HX H1 H2 HH HP HT Hp]
  · isplitl [HX]; · iexact HX
    isplitl [H1]; · iexact H1
    isplitl [H2]; · iexact H2
    isplitl [HH]; · iexact HH
    isplitl [HP]; · iexact HP
    isplitl [HT]; · iexact HT
    iexact Hp
  isplitl [HO]; · iexact HO
  isplitl [I0 I1 I2 I3 I4]
  · isplitl [I0]; · iexact I0
    isplitl [I1]; · iexact I1
    isplitl [I2]; · iexact I2
    isplitl [I3]; · iexact I3
    iexact I4
  isplitl [O5]; · iapply (left_idle m c 5 t hi hf); iexact O5
  iexact O6

theorem oAt_eq (c : Dev nD) (b j : Fin 2) (t : Fin cfg0.N) (ht : t.val = 4 * b.val + 2 + j.val) : oAt m c t = ob (inp m c) b j := by
  unfold oAt
  congr 1 <;> exact Fin.ext (by simp only [ht]; omega)

theorem step2 (c : Dev nD) (b : Fin 2) (t : Fin cfg0.N) (ht : b = 0 ∧ t = t0_2 ∨ b = 1 ∧ t = t0_6) {X P : sProp 𝕄} :
    Step m c t iprop(X ∗ freeF1 c (V m c main_arg2) ∗ flyF2 (inp m c) c (V m c main_arg4) (ex (inp m c) b) ∗ hid (inp m c) c b ∗ P ∗ keptT (inp m c) c b ∗ pool c)
      iprop(X ∗ freeF1 c (V m c main_arg2) ∗ midF2 (inp m c) c (V m c main_arg4) (ex (inp m c) b) ∗ hid (inp m c) c b ∗ P ∗ keptT (inp m c) c b ∗ pool c) (found m c 6 t) := by
  have hi : cfg0.idle 5 (cfg0.grid.coords t) = false := by rcases ht with ⟨-, rfl⟩ | ⟨-, rfl⟩ <;> decide
  have ho : oAt m c t = ob (inp m c) b 0 := oAt_eq m c b 0 t (by rcases ht with ⟨rfl, rfl⟩ | ⟨rfl, rfl⟩ <;> rfl)
  unfold Step ins
  iintro ⟨⟨HX, H1, H2, HH, HP, HT, Hp⟩, HO, ⟨I0, I1, I2, I3, I4⟩, O5, O6⟩
  iapply (inside (point2 (inp m c) c _ _ _ _ _ _ _ _ _ _ _ _ _ _ _ b t ht))
  isplitl [I3 I4 O5 H2 HH HT HO]
  · isplitl [I3]; · iexact I3
    isplitl [I4]; · iexact I4
    isplitl [O5]; · iapply (found5 m c t); iexact O5
    isplitl [H2]; · iexact H2
    isplitl [HH]; · iexact HH
    isplitl [HT]; · iexact HT
    iexact HO
  iintro ⟨I3, I4, O5, H2, HH, HT, HO⟩
  isplitl [HX H1 H2 HH HP HT Hp]
  · isplitl [HX]; · iexact HX
    isplitl [H1]; · iexact H1
    isplitl [H2]; · iexact H2
    isplitl [HH]; · iexact HH
    isplitl [HP]; · iexact HP
    isplitl [HT]; · iexact HT
    iexact Hp
  isplitl [HO]; · iexact HO
  isplitl [I0 I1 I2 I3 I4]
  · isplitl [I0]; · iexact I0
    isplitl [I1]; · iexact I1
    isplitl [I2]; · iexact I2
    isplitl [I3]; · iexact I3
    iexact I4
  isplitl [O5]
  · iapply (left_live m c 5 t hi); rw [after5, ho]; iexact O5
  iexact O6

theorem step3 (c : Dev nD) (b : Fin 2) (t : Fin cfg0.N) (ht : b = 0 ∧ t = t0_3 ∨ b = 1 ∧ t = t0_7) {X P : sProp 𝕄} :
    Step m c t iprop(X ∗ freeF1 c (V m c main_arg2) ∗ midF2 (inp m c) c (V m c main_arg4) (ex (inp m c) b) ∗ hid (inp m c) c b ∗ P ∗ keptT (inp m c) c b ∗ pool c)
      iprop(X ∗ freeF1 c (V m c main_arg2) ∗ freeF2 c (V m c main_arg4) ∗ any c sH ∗ any c sB ∗ P ∗ keptT (inp m c) c b ∗ pool c) (found m c 6 t) := by
  have hi : cfg0.idle 5 (cfg0.grid.coords t) = false := by rcases ht with ⟨-, rfl⟩ | ⟨-, rfl⟩ <;> decide
  have ho : oAt m c t = ob (inp m c) b 1 := oAt_eq m c b 1 t (by rcases ht with ⟨rfl, rfl⟩ | ⟨rfl, rfl⟩ <;> rfl)
  unfold Step ins
  iintro ⟨⟨HX, H1, H2, HH, HP, HT, Hp⟩, HO, ⟨I0, I1, I2, I3, I4⟩, O5, O6⟩
  iapply (inside (point3 (inp m c) c _ _ _ _ _ _ _ _ _ _ _ _ _ _ _ b t ht))
  isplitl [I3 I4 O5 H2 HH HT HO]
  · isplitl [I3]; · iexact I3
    isplitl [I4]; · iexact I4
    isplitl [O5]; · iapply (found5 m c t); iexact O5
    isplitl [H2]; · iexact H2
    isplitl [HH]; · iexact HH
    isplitl [HT]; · iexact HT
    iexact HO
  iintro ⟨I3, I4, O5, H2, HH, HB, HT, HO⟩
  isplitl [HX H1 H2 HH HB HP HT Hp]
  · isplitl [HX]; · iexact HX
    isplitl [H1]; · iexact H1
    isplitl [H2]; · iexact H2
    isplitl [HH]; · iexact HH
    isplitl [HB]; · iexact HB
    isplitl [HP]; · iexact HP
    isplitl [HT]; · iexact HT
    iexact Hp
  isplitl [HO]; · iexact HO
  isplitl [I0 I1 I2 I3 I4]
  · isplitl [I0]; · iexact I0
    isplitl [I1]; · iexact I1
    isplitl [I2]; · iexact I2
    isplitl [I3]; · iexact I3
    iexact I4
  isplitl [O5]
  · iapply (left_live m c 5 t hi); rw [after5, ho]; iexact O5
  iexact O6

theorem weaken_last (c : Dev nD) {X Y Z R P Q H : sProp 𝕄} : iprop(X ∗ Y ∗ Z ∗ R ∗ H ∗ P ∗ keptT (inp m c) c 1 ∗ Q) ⊢ iprop(X ∗ Y ∗ Z ∗ R ∗ H ∗ P ∗ any c sT ∗ Q) := by
  unfold keptT any
  iintro ⟨H1, H2, H3, H4, H5, H6, ⟨%g, -, H7⟩, H8⟩
  isplitl [H1]; · iexact H1
  isplitl [H2]; · iexact H2
  isplitl [H3]; · iexact H3
  isplitl [H4]; · iexact H4
  isplitl [H5]; · iexact H5
  isplitl [H6]; · iexact H6
  isplitl [H7]; · iexists g; iexact H7
  iexact H8

/-- The obligation from a point's triple. -/
theorem close (c : Dev nD) (t : Fin cfg0.N) {P Q O6 : sProp 𝕄} (h : Step m c t P Q O6) (hP : sta m c t.val ⊢ P) (hQ : Q ⊢ sta m c (t.val + 1)) (h6 : O6 ⊢ left m c 6 t) :
    bodyPre m c t ⊢ wp frame (wpE (defs₀ (F := F)) Variants.none c none) Set.univ (bodyAt0 t) (fun _ => bodyPost m c t) :=
  (open_pre m c t).trans ((sep_mono_left hP).trans (h.trans (wp_mono _ _ _ fun _ =>
    (BI.sep_mono hQ (sep_mono_right (sep_mono_right (sep_mono_right h6)))).trans (close_post m c t))))

theorem sound_body (c : Dev nD) (t : Fin cfg0.N) :
    bodyPre m c t ⊢ wp frame (wpE (defs₀ (F := F)) Variants.none c none) Set.univ (bodyAt0 t) (fun _ => bodyPost m c t) := by
  rcases fin_N0 t with rfl | rfl | rfl | rfl | rfl | rfl | rfl | rfl
  · exact close m c t0_0 (step0 m c) .rfl .rfl (left_idle m c 6 t0_0 (by decide) (by decide))
  · exact close m c t0_1 (step1 m c t0_1 0 (by decide) (by decide) (point1a (inp m c) c _ _ _ _ _ _ _ _ _ _ _ _ _ _ _ _ (hX m c))) .rfl .rfl (left_idle m c 6 t0_1 (by decide) (by decide))
  · exact close m c t0_2 (step2 m c 0 t0_2 (.inl ⟨rfl, rfl⟩)) .rfl .rfl (left_idle m c 6 t0_2 (by decide) (by decide))
  · exact close m c t0_3 (step3 m c 0 t0_3 (.inl ⟨rfl, rfl⟩)) .rfl .rfl (left_idle m c 6 t0_3 (by decide) (by decide))
  · exact close m c t0_4 (step4 m c) .rfl .rfl .rfl
  · exact close m c t0_5 (step1 m c t0_5 1 (by decide) (by decide) (point1b (inp m c) c _ _ _ _ _ _ _ _ _ _ _ _ _ _ _ _)) .rfl .rfl (left_idle m c 6 t0_5 (by decide) (by decide))
  · exact close m c t0_6 (step2 m c 1 t0_6 (.inr ⟨rfl, rfl⟩)) .rfl .rfl (left_idle m c 6 t0_6 (by decide) (by decide))
  · exact close m c t0_7 (step3 m c 1 t0_7 (.inr ⟨rfl, rfl⟩)) .rfl (weaken_last m c) (left_last m c)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The body's seven copy semaphores. -/
abbrev osem0 : Fin 7 → SemLoc sig := fun j => (![SemLoc.dma 8, SemLoc.dma 9, SemLoc.dma 10, SemLoc.dma 11, SemLoc.dma 12, SemLoc.dma 13, SemLoc.dma 14] : Fin 7 → SemLoc sig) j
theorem ownSemFacts0 : Pipeline.OwnSemFacts spec0 osem0 := by decide
theorem ownSems0_list (c : Dev nD) :
    (Pipeline.ownSems0 (Ix := Unit) (Name := ℕ) (U := Pipeline.UD sig nD τ) (Lvl := ℕ) (Val := Elt F) (τ := τ) osem0 c : sProp 𝕄)
      = iprop(sv c 8 ∗ sv c 9 ∗ sv c 10 ∗ sv c 11 ∗ sv c 12 ∗ sv c 13 ∗ sv c 14) := by
  rw [Pipeline.ownSems0_eq_of_list c osem0 [0, 1, 2, 3, 4, 5, 6] (by decide) (by decide)]; rfl
/-- The operands left in HBM. -/
def H0 : Finset (Ref sig .tc) := {main_arg0, main_arg2, main_arg4}
theorem H0_sub : H0 ⊆ Pipeline.restRefs sig spec0 := by decide
theorem H0_list (c : Dev nD) :
    (bigSep H0 (fun b => ((c : Thread nD τ).loc b) ↦{fullShare} V m c b) : sProp 𝕄)
      = iprop(pt c mX fullShare (V m c main_arg0) ∗ pt c mF1 fullShare (V m c main_arg2) ∗ pt c mF2 fullShare (V m c main_arg4)) := by
  rw [BI.bigSep_eq_bigSepL_of_eq [main_arg0, main_arg2, main_arg4] (by decide) (by decide)]; rfl

theorem halves {sp : Space} {S : Shape} {e : EltTy} (c : Dev nD) (M : Memref sig .tc sp S e) (f : Bf (F := F) c M) :
    pt c M fullShare f ⊣⊢ iprop(pt c M fullShare.left f ∗ pt c M fullShare.right f) := pointsTo_share (PosShare.mem_left_op_right _)
theorem scr_list (c : Dev nD) :
    (Pipeline.scopedRest (Ix := Unit) (Name := ℕ) (U := Pipeline.UD sig nD τ) (Lvl := ℕ) (Val := Elt F) spec0 c : sProp 𝕄)
      = iprop(any c sH ∗ any c sX ∗ any c sF1 ∗ any c sF2 ∗ any c sP ∗ any c sB ∗ any c sT) := by
  rw [scopedRest0_eq]; rfl

theorem enter (c : Dev nD) : Pipeline.ΦDRV osem0 spec0 H0 ∅ (V m) (V m) c ⊢ sta m c 0 := by
  unfold Pipeline.ΦDRV
  rw [scr_list, ownSems0_list, H0_list]
  refine BIBase.Entails.trans ?_ (show iprop(freeX c (V m c main_arg0) ∗ freeF1 c (V m c main_arg2) ∗ freeF2 c (V m c main_arg4) ∗ any c sH ∗ any c sB ∗ any c sP ∗ any c sT ∗ pool c) ⊢ sta m c 0 from .rfl)
  unfold freeX heldX freeF1 freeF2 pool
  iintro ⟨⟨SH, SX, S1, S2, SP, SB, ST⟩, ⟨D8, D9, D10, D11, D12, D13, D14⟩, ⟨HX, H1, H2⟩, -⟩
  ihave HX := (halves c mX (V m c main_arg0)).1 $$ HX
  ihave H2 := (halves c mF2 (V m c main_arg4)).1 $$ H2
  icases HX with ⟨HX, HX'⟩
  icases H2 with ⟨H2, H2'⟩
  isplitl [HX HX' D10 D11 SX]
  · isplitl [HX HX' D10 D11]
    · isplitl [HX]; · iexact HX
      isplitl [HX']; · iexact HX'
      isplitl [D10]; · iexact D10
      iexact D11
    iexact SX
  isplitl [H1 D12 S1]
  · isplitl [H1]; · iexact H1
    isplitl [D12]; · iexact D12
    iexact S1
  isplitl [H2 H2' D13 D14 S2]
  · isplitl [H2]; · iexact H2
    isplitl [H2']; · iexact H2'
    isplitl [D13]; · iexact D13
    isplitl [D14]; · iexact D14
    iexact S2
  isplitl [SH]; · iexact SH
  isplitl [SB]; · iexact SB
  isplitl [SP]; · iexact SP
  isplitl [ST]; · iexact ST
  isplitl [D8]; · iexact D8
  iexact D9
theorem leave (c : Dev nD) : sta m c 8 ⊢ Pipeline.ΦDRV osem0 spec0 H0 ∅ (V m) (V m) c := by
  unfold Pipeline.ΦDRV
  rw [scr_list, ownSems0_list, H0_list]
  refine BIBase.Entails.trans (show sta m c 8 ⊢ iprop(freeX c (V m c main_arg0) ∗ freeF1 c (V m c main_arg2) ∗ freeF2 c (V m c main_arg4) ∗ any c sH ∗ any c sB ∗ any c sP ∗ any c sT ∗ pool c) from .rfl) ?_
  unfold freeX heldX freeF1 freeF2 pool
  iintro ⟨⟨⟨HX, HX', D10, D11⟩, SX⟩, ⟨H1, D12, S1⟩, ⟨H2, H2', D13, D14, S2⟩, SH, SB, SP, ST, D8, D9⟩
  isplitl [SH SX S1 S2 SP SB ST]
  · isplitl [SH]; · iexact SH
    isplitl [SX]; · iexact SX
    isplitl [S1]; · iexact S1
    isplitl [S2]; · iexact S2
    isplitl [SP]; · iexact SP
    isplitl [SB]; · iexact SB
    iexact ST
  isplitl [D8 D9 D10 D11 D12 D13 D14]
  · isplitl [D8]; · iexact D8
    isplitl [D9]; · iexact D9
    isplitl [D10]; · iexact D10
    isplitl [D11]; · iexact D11
    isplitl [D12]; · iexact D12
    isplitl [D13]; · iexact D13
    iexact D14
  isplitl [HX HX' H1 H2 H2']
  · isplitl [HX HX']
    · iapply (halves c mX (V m c main_arg0)).2
      isplitl [HX]; · iexact HX
      iexact HX'
    isplitl [H1]; · iexact H1
    iapply (halves c mF2 (V m c main_arg4)).2
    isplitl [H2]; · iexact H2
    iexact H2'
  rw [BI.bigSep_empty]
  iempintro

theorem hmainV : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [] [hostOps1] (by simp only [List.Forall])
    (by simp only [List.Forall]) main_chain

/-- What a core's arrays and other buffers hold at the end. -/
def Ends (r : PUnit × MemSt nD τ sig (Elt F)) : Prop := ∀ c : Dev nD,
  (∀ w, r.2.mem ((spec0 w).arr.view.loc (c.tc : Thread nD τ)) = (dats m 0 c).arrAt w cfg0.N)
  ∧ ∀ b ∈ Pipeline.restRefs sig spec0, r.2.mem ((c.tc : Thread nD τ).loc b)
      = StableHlo.after [hostOps1].flatten (Pipeline.withArrays spec0 c (Pipeline.withR (V0 m c) ∅ c (V m c)) fun w => (dats m 0 c).arrAt w cfg0.N) (Proc.devRef .tc b)

set_option backward.isDefEq.respectTransparency.types false in
theorem run_main : θ_run defs (onTc (τ := τ) (main (F := F))) (s₀ m ρ) (fun r => Ends m r ∧ r.2.sem = fun _ => 0) :=
  Pipeline.θ_run_frame_dmaR_aroundV (Q' := _) (hQ' := fun _ h => h) cfgs (dats m) (0 : Fin 1) launch0 osem0 defs₀ Variants.none ownSemFacts0 H0 ∅ H0_sub (Finset.empty_subset _) m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := V m) (hmain := hmainV m)
    (hA := A_eq m) (hin := enter m) (hout := leave m)

end Cert.Guarded.Hand

end
-- ==== Proof.Ends.lean ====
module

public import proofs.«01_k».proof.Proof.Run
public import Idealize.ShloMosaic.Lib.Pipeline.ValueKit.Geometry
public import Idealize.ShloMosaic.Lib.Claim
public import Idealize.ShloMosaic.Lib.Layout

@[expose] public section

set_option maxRecDepth 16384

noncomputable section

namespace Cert.Guarded.Hand

open Cert.Guarded Cert.Guarded.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ) (ρ : Dev nD → PrngReg)

/-- The launch's arguments as vectors. -/
def args (c : Dev nD) : In F where
  x := m ((c : Thread nD τ).loc main_arg0)
  rw := m ((c : Thread nD τ).loc main_arg1)
  w1 := m ((c : Thread nD τ).loc main_arg2)
  b1 := m ((c : Thread nD τ).loc main_arg3)
  w2 := m ((c : Thread nD τ).loc main_arg4)
  b2 := m ((c : Thread nD τ).loc main_arg5)
  ow := m ((c : Thread nD τ).loc main_arg6)
  ob := m ((c : Thread nD τ).loc main_arg7)

theorem ix0 : win0_0.index t0_0 = ![0, 0] := by decide +kernel
theorem ix1' : win0_1.index t0_0 = ![0, 0] := by decide +kernel
theorem ix2' : win0_2.index t0_0 = ![0, 0] := by decide +kernel
theorem ix3' : win0_3.index t0_0 = ![0, 0] := by decide +kernel
theorem ix4' : win0_4.index t0_0 = ![0] := by decide +kernel
theorem ix5' : ∀ t : Fin cfg0.N, win0_5.flush t = true → ∃ b j : Fin 2, t.val = 4 * b.val + 2 + j.val ∧ win0_5.index t = ![b.val, j.val, 0] := by decide +kernel
theorem ix6' : ∀ t : Fin cfg0.N, win0_6.index t = ![0, 0] := by decide +kernel

theorem inp_eq (c : Dev nD) : inp m c = args m c := by
  have h0 : (inp m c).rw = (args m c).rw := by
    funext y; show iblk m c 0 t0_0 y = _
    blk_simp [iblk]
    exact congrArg (V m c main_arg1) (by blk_ext [ix0])
  have h1 : (inp m c).b1 = (args m c).b1 := by
    funext y; show iblk m c 1 t0_0 y = _
    blk_simp [iblk]
    exact congrArg (V m c main_arg3) (by blk_ext [ix1'])
  have h2 : (inp m c).b2 = (args m c).b2 := by
    funext y; show iblk m c 2 t0_0 y = _
    blk_simp [iblk]
    exact congrArg (V m c main_arg5) (by blk_ext [ix2'])
  have h3 : (inp m c).ow = (args m c).ow := by
    funext y; show iblk m c 3 t0_0 y = _
    blk_simp [iblk]
    exact congrArg (V m c main_arg6) (by blk_ext [ix3'])
  have h4 : (inp m c).ob = (args m c).ob := by
    funext y; show iblk m c 4 t0_0 y = _
    blk_simp [iblk]
    exact congrArg (V m c main_arg7) (by blk_ext [ix4'])
  unfold inp args at *
  simp only at h0 h1 h2 h3 h4
  rw [h0, h1, h2, h3, h4]
  rfl

/-- The first result. -/
def outV (A : In F) : Vec F S2x2048x768 .f32 := fun y =>
  ob A (y 0) ⟨(y 1).val / 1024, by have h : (y 1).val < 2048 := (y 1).isLt; omega⟩ (ix3 0 ⟨(y 1).val % 1024, Nat.mod_lt _ (by decide)⟩ (y 2))
/-- The second result. -/
def auxV (A : In F) : Vec F S_ .f32 := shapeCast S_ (ax A) (by decide)

theorem outV_at (A : In F) (b j : Fin 2) (y : S1x1024x768.Idx) (z : S2x2048x768.Idx)
    (h0 : (z 0).val = b.val) (h1 : (z 1).val = 1024 * j.val + (y 1).val) (h2 : (z 2).val = (y 2).val) : ob A b j y = outV A z := by
  have hy : (y 1).val < 1024 := (y 1).isLt
  have hy0 : (y 0).val < 1 := (y 0).isLt
  unfold outV
  have e0 : z 0 = b := Fin.ext h0
  have e1 : (⟨(z 1).val / 1024, by have h : (z 1).val < 2048 := (z 1).isLt; omega⟩ : Fin 2) = j := Fin.ext (by show (z 1).val / 1024 = _; omega)
  rw [e0, e1]
  refine congrArg _ (funext fun a => Fin.ext ?_)
  fin_cases a
  · show (y 0).val = 0; omega
  · show (y 1).val = (z 1).val % 1024; omega
  · exact h2.symm

theorem outs_ok (c : Dev nD) : (dats m 0 c).arrAt 5 cfg0.N = outV (inp m c) := by
  refine (dats m 0 c).arrAt_eq_of_covers 5 _ (by decide +kernel) fun t hf y => ?_
  obtain ⟨b, j, ht, hi⟩ := ix5' t hf
  blk_simp
  show oAt m c t y = _
  rw [oAt_eq m c b j t ht]
  refine outV_at _ b j y _ ?_ ?_ ?_
  · blk_simp [hi]
  · blk_simp [hi]; show j.val * 1024 + _ = _; omega
  · blk_simp [hi]

theorem aux_out (c : Dev nD) : (dats m 0 c).arrAt 6 cfg0.N = ax (inp m c) := by
  refine (dats m 0 c).arrAt_eq_of_covers 6 _ (by decide +kernel) fun t hf y => ?_
  blk_simp
  exact congrArg (ax (inp m c)) (by blk_ext [ix6'])

/-- An array the pipeline does not touch, at the end. -/
theorem rest_keeps (c : Dev nD) (b : Ref sig .tc) (h0 : ∀ w, Pipeline.arrRef spec0 w ≠ b) (h1 : b ≠ main_v1) {r : PUnit × MemSt nD τ sig (Elt F)}
    (h : Ends m r) (hb : b ∈ Pipeline.restRefs sig spec0) : r.2.mem ((c.tc : Thread nD τ).loc b) = m ((c.tc : Thread nD τ).loc b) := by
  rw [(h c).2 b hb, StableHlo.after_of_forall_not_mem _ _ (by
    simp only [hostOps1, List.flatten_cons, List.flatten_nil, List.append_nil, List.mem_cons, List.mem_nil_iff, or_false, forall_eq, StableHlo.reshape_writes, Finset.mem_singleton]
    exact StableHlo.devRef_ne_of_ne h1)]
  rw [Pipeline.withArrays_of_ne _ c _ _ b h0, Pipeline.withR_of_not_mem _ _ _ _ b (Finset.notMem_empty _)]
  rfl

theorem kept {r : PUnit × MemSt nD τ sig (Elt F)} (h : Ends m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨rest_keeps m c main_arg0 (by decide) (by decide) h (Pipeline.mem_restRefs_of _ (by decide) (by decide)),
   ((h c).1 0).trans (((dats m 0 c).arrAt_in 0 rfl _).trans rfl),
   rest_keeps m c main_arg2 (by decide) (by decide) h (Pipeline.mem_restRefs_of _ (by decide) (by decide)),
   ((h c).1 1).trans (((dats m 0 c).arrAt_in 1 rfl _).trans rfl),
   rest_keeps m c main_arg4 (by decide) (by decide) h (Pipeline.mem_restRefs_of _ (by decide) (by decide)),
   ((h c).1 2).trans (((dats m 0 c).arrAt_in 2 rfl _).trans rfl),
   ((h c).1 3).trans (((dats m 0 c).arrAt_in 3 rfl _).trans rfl),
   ((h c).1 4).trans (((dats m 0 c).arrAt_in 4 rfl _).trans rfl)⟩

theorem out_final {r : PUnit × MemSt nD τ sig (Elt F)} (h : Ends m r) (c : Dev nD) :
    r.2.mem ((c.tc : Thread nD τ).loc main_v0_0) = outV (args m c) := by
  rw [← inp_eq]; exact ((h c).1 5).trans (outs_ok m c)

theorem aux_final {r : PUnit × MemSt nD τ sig (Elt F)} (h : Ends m r) (c : Dev nD) :
    r.2.mem ((c.tc : Thread nD τ).loc main_v1) = auxV (args m c) := by
  rw [← inp_eq, (h c).2 main_v1 (Pipeline.mem_restRefs_of _ (by decide) (by decide))]
  simp only [hostOps1, List.flatten_cons, List.flatten_nil, List.append_nil, StableHlo.after_cons, StableHlo.after_nil]
  rw [StableHlo.reshape_result]
  exact congrArg (fun f : Vec F S1x1 .f32 => shapeCast S_ f shapeCasts_S1x1_S_)
    ((Pipeline.withArrays_arr spec0 launch0.win.arr_inj c (Pipeline.withR (V0 m c) ∅ c (V m c)) (fun w => (dats m 0 c).arrAt w cfg0.N) 6).trans (aux_out m c))

/-- The run: arguments kept, semaphores at rest, and the two results. -/
theorem run_all : θ_run defs (onTc (τ := τ) (main (F := F))) ⟨m, fun _ => 0, ρ⟩ (fun r => (∀ c : Dev nD,
    r.2.mem ((c.tc : Thread nD τ).loc main_v0_0) = outV (args m c) ∧ r.2.mem ((c.tc : Thread nD τ).loc main_v1) = auxV (args m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) ∧ r.2.sem = fun _ => 0) :=
  θ_run_mono (run_main m ρ) fun r h => ⟨fun c => ⟨out_final m h.1 c, aux_final m h.1 c, kept m h.1 c⟩, h.2⟩

end Cert.Guarded.Hand

end
-- ==== Proof.Pick.lean ====
module

public import proofs.«01_k».proof.Proof.Base
public import proofs.«01_k».proof.Proof.Gen.KernelIdeal.Skeleton
public import Idealize.ShloMosaic.PureOps.Ideal
public import Idealize.ShloMosaic.PureOps.Ideal.Laws
public import Idealize.ShloMosaic.Lib.ValueIdx

@[expose] public section

set_option maxRecDepth 16384

noncomputable section

namespace Cert.Pick

open Idealize.ShloMosaic Idealize.ShloMosaic.Tactic
open Cert.Guarded (S1x10 S1 S1x1)
open Cert.Guarded.Gen
open Cert.Guarded.Hand (lanes)

/-- Entry `e` is the first of the largest. -/
def IsPick (g : Fin 10 → EReal) (e : Fin 10) : Prop := (∀ k, g k ≤ g e) ∧ ∀ k, g k = g e → e ≤ k

theorem IsPick.unique {g : Fin 10 → EReal} {e e' : Fin 10} (h : IsPick g e) (h' : IsPick g e') : e = e' :=
  le_antisymm (h.2 e' (le_antisymm (h.1 e') (h'.1 e))) (h'.2 e (le_antisymm (h'.1 e) (h.1 e')))

theorem exists_pick (g : Fin 10 → EReal) : ∃ e, IsPick g e := by
  obtain ⟨a, -, ha⟩ := Finset.exists_max_image (Finset.univ : Finset (Fin 10)) g ⟨0, Finset.mem_univ _⟩
  obtain ⟨e, he, hm⟩ := Finset.exists_min_image (Finset.univ.filter fun k => g k = g a) id ⟨a, by simp⟩
  have he' : g e = g a := (Finset.mem_filter.mp he).2
  exact ⟨e, fun k => he' ▸ ha k (Finset.mem_univ _), fun k hk => hm k (Finset.mem_filter.mpr ⟨Finset.mem_univ _, hk.trans he'⟩)⟩

theorem fold_max_eq {g : Fin 10 → EReal} {e : Fin 10} (h : IsPick g e) : (Finset.univ : Finset (Fin 10)).fold max (⊥ : EReal) g = g e :=
  le_antisymm (Finset.fold_max_le (c := g e) |>.mpr ⟨bot_le, fun k _ => h.1 k⟩) (Finset.le_fold_max (c := g e) |>.mpr (Or.inr ⟨e, Finset.mem_univ _, le_rfl⟩))

/-- The signed minimum of small words, as a number. -/
theorem fold_minsi_toNat {ι : Type} [DecidableEq ι] (s : Finset ι) (g : ι → BitVec 32) (hg : ∀ k, (g k).toNat < 2 ^ 31) :
    (s.fold IKind.minsi.op 2147483647#32 g).toNat = s.fold min 2147483647 fun k => (g k).toNat := by
  suffices h : (s.fold IKind.minsi.op 2147483647#32 g).toNat < 2 ^ 31 ∧
      (s.fold IKind.minsi.op 2147483647#32 g).toNat = s.fold min 2147483647 fun k => (g k).toNat from h.2
  induction s using Finset.induction_on with
  | empty => exact ⟨by rw [Finset.fold_empty]; decide, by rw [Finset.fold_empty, Finset.fold_empty]; decide⟩
  | insert a s ha ih =>
    have hm := WordArith.toNat_minsi_of_lt (g a) (s.fold IKind.minsi.op 2147483647#32 g) (hg a) ih.1
    have hga := hg a
    rw [Finset.fold_insert ha, Finset.fold_insert ha, ← ih.2]
    show (IntOp.minsi _ _).toNat < _ ∧ (IntOp.minsi _ _).toNat = _
    rw [hm]
    exact ⟨by omega, rfl⟩

/-- The least lane whose mark is set, when one is: whatever word of nine or more stands on the others. -/
theorem pick_word {g : Fin 10 → EReal} {e : Fin 10} (h : IsPick g e) (f : Fin 10 → BitVec 32) (s : ℕ) (hs : 9 ≤ s)
    (hf : ∀ k, (f k).toNat = if g k = g e then k.val else s) (hs' : s < 2 ^ 31) :
    ((Finset.univ : Finset (Fin 10)).fold IKind.minsi.op 2147483647#32 f).toNat = e.val := by
  rw [fold_minsi_toNat _ _ fun k => by rw [hf]; split <;> omega]
  refine le_antisymm (Finset.fold_min_le (c := e.val) |>.mpr (Or.inr ⟨e, Finset.mem_univ _, by rw [hf, if_pos rfl]⟩)) ?_
  refine Finset.le_fold_min (c := e.val) |>.mpr ⟨by omega, fun k _ => ?_⟩
  rw [hf]
  split
  · exact h.2 k ‹_›
  · omega

/-- The largest of ten entries, on every lane. -/
def mx (v : FVec Ideal S1x10 .f32) : FVec Ideal S1x10 .f32 :=
  broadcastTo S1x10 (shapeCast S1x1 (multiReduction .maximumf [1] S1 v 0xFF800000#32 reduces_S1x10_S1 (.inl rfl) rfl) shapeCasts_S1_S1x1) broadcasts_S1x1_S1x10

theorem lift_eq (k : Fin 10) : reduces_S1x10_S1.lift (ix1 (0 : Fin 1)) k = ix2 (0 : Fin 1) k := by
  funext a; fin_cases a <;> rfl

theorem negInf : (FloatOps.ofBits (F := Ideal) .f32 0xFF800000#32 : EReal) = ⊥ := by
  show Ideal.ofBits .f32 0xFF800000#32 = ⊥
  simp [Ideal.ofBits, Ideal.ieee]

theorem mx_at (v : FVec Ideal S1x10 .f32) {e : Fin 10} (h : IsPick (fun k => v (ix2 0 k)) e) (k : Fin 10) : mx v (ix2 0 k) = v (ix2 0 e) := by
  unfold mx
  pointwise
  refine (Ideal.multiReduction_maximumf_single v _ reduces_S1x10_S1 (.inl rfl) rfl (ix1 0)).trans ?_
  refine (congrArg (fun b : EReal => (Finset.univ : Finset (Fin 10)).fold max b (v ∘ reduces_S1x10_S1.lift (ix1 (0 : Fin 1)))) negInf).trans ?_
  refine Eq.trans ?_ (fold_max_eq h)
  exact Finset.fold_congr fun k _ => congrArg v (lift_eq k)

theorem sel_at (v : FVec Ideal S1x10 .f32) {e : Fin 10} (h : IsPick (fun k => v (ix2 0 k)) e) (k : Fin 10) (s : BitVec 32) :
    (select (cmpf .oeq v (mx v)) (iota .tc S1x10 32 [1] iota_S1x10_d1_w32) (broadcast S1x10 s) (ix2 0 k)).toNat
      = if v (ix2 0 k) = v (ix2 0 e) then k.val else s.toNat := by
  have hc : cmpf .oeq v (mx v) (ix2 0 k) = if v (ix2 0 k) = v (ix2 0 e) then 1#1 else 0#1 := by
    show FloatOps.cmpf .oeq (v (ix2 0 k)) (mx v (ix2 0 k)) = _
    rw [mx_at v h]
    show BitVec.ofBool (decide _) = _
    split <;> simp_all
  show (Scalar.select (cmpf .oeq v (mx v) (ix2 0 k)) (iota .tc S1x10 32 [1] iota_S1x10_d1_w32 (ix2 0 k)) s).toNat = _
  rw [hc]
  by_cases hv : v (ix2 0 k) = v (ix2 0 e)
  · rw [if_pos hv, if_pos hv]
    pointwise
    rw [BitVec.toNat_ofNat]
    exact Nat.mod_eq_of_lt (by omega)
  · rw [if_neg hv, if_neg hv]
    rfl

theorem word_G (v : FVec Ideal S1x10 .f32) {e : Fin 10} (h : IsPick (fun k => v (ix2 0 k)) e) :
    (extractAt ![0, 0] (k0_pay1 v lanes (mx v)) inpos_S1x1_p0_0).toNat = e.val := by
  unfold k0_pay1 lanes
  pointwise
  refine (congrArg BitVec.toNat ((multiReductionI_eq_fold .minsi _ _ reduces_S1x10_S1 rfl (ix1 0)).trans
    (reduces_S1x10_S1.fold_filter_drop_single _ _ _ _))).trans ?_
  refine pick_word h _ 9 le_rfl (fun k => ?_) (by omega)
  refine (congrArg (fun z => (select (cmpf .oeq v (mx v)) (iota .tc S1x10 32 [1] iota_S1x10_d1_w32) (broadcast S1x10 9#32) z).toNat) (lift_eq k)).trans ?_
  exact sel_at v h k 9
theorem word_K (v : FVec Ideal S1x10 .f32) {e : Fin 10} (h : IsPick (fun k => v (ix2 0 k)) e) :
    (extractAt ![0, 0] (Cert.KernelIdeal.Gen.k0_pay1 v lanes (mx v)) inpos_S1x1_p0_0).toNat = e.val := by
  unfold Cert.KernelIdeal.Gen.k0_pay1 lanes
  pointwise
  refine (congrArg BitVec.toNat ((multiReductionI_eq_fold .minsi _ _ reduces_S1x10_S1 rfl (ix1 0)).trans
    (reduces_S1x10_S1.fold_filter_drop_single _ _ _ _))).trans ?_
  refine pick_word h _ 10 (by omega) (fun k => ?_) (by omega)
  refine (congrArg (fun z => (select (cmpf .oeq v (mx v)) (iota .tc S1x10 32 [1] iota_S1x10_d1_w32) (broadcast S1x10 10#32) z).toNat) (lift_eq k)).trans ?_
  exact sel_at v h k 10

/-- The two sentinels choose alike. -/
theorem pay1_eq (v : FVec Ideal S1x10 .f32) : Cert.KernelIdeal.Gen.k0_pay1 v lanes (mx v) = k0_pay1 v lanes (mx v) := by
  obtain ⟨e, h⟩ := exists_pick fun k => v (ix2 0 k)
  have hw : extractAt ![0, 0] (Cert.KernelIdeal.Gen.k0_pay1 v lanes (mx v)) inpos_S1x1_p0_0
      = extractAt ![0, 0] (k0_pay1 v lanes (mx v)) inpos_S1x1_p0_0 := BitVec.eq_of_toNat_eq ((word_K v h).trans (word_G v h).symm)
  funext y
  have hy : y = ix2 0 0 := funext fun a => by fin_cases a <;> exact Subsingleton.elim (α := Fin 1) _ _
  rw [hy]
  exact hw

end Cert.Pick

end
-- ==== Proof.Same.lean ====
module

public import proofs.«01_k».proof.Proof.Pick
public import proofs.«01_k».proof.Proof.Gen.Guarded
public import proofs.«01_k».proof.Proof.Gen.GuardedIdeal
public import proofs.«01_k».proof.Proof.Gen.KernelIdeal

@[expose] public section

set_option maxRecDepth 100000

noncomputable section

/-! At the extended reals the unguarded program and the guarded one are one program: the largest of ten entries is
    always attained, so the sentinel is never chosen. -/
namespace Cert.Same

open Idealize.ShloMosaic
open Idealize.SL.Sem
open Cert.Pick (mx)
open Cert.Guarded.Hand (lanes)
open Cert.Guarded (S1x10)

/-- A function of what the router hands on, applied to the lanes and the maximum of its first argument alone. -/
def fix {α : Type} (p : FVec Ideal S1x10 .f32 → IVec S1x10 32 → FVec Ideal S1x10 .f32 → α) :
    FVec Ideal S1x10 .f32 → IVec S1x10 32 → FVec Ideal S1x10 .f32 → α := fun v _ _ => p v lanes (mx v)

theorem fix1 : fix (Cert.KernelIdeal.Gen.k0_pay1 (F := Ideal)) = fix (Cert.Guarded.Gen.k0_pay1 (F := Ideal)) := by
  funext v a b; exact Cert.Pick.pay1_eq v
theorem fix3 : fix (Cert.KernelIdeal.Gen.k0_pay3 (F := Ideal)) = fix (Cert.Guarded.Gen.k0_pay3 (F := Ideal)) := by
  funext v a b c d
  show Cert.KernelIdeal.Gen.k0_pay3 v lanes (mx v) c d = _
  unfold Cert.KernelIdeal.Gen.k0_pay3
  rw [Cert.Pick.pay1_eq]
  rfl

open Cert.KernelIdeal in
theorem part2K (i) : k0_part2 (F := Ideal) i = fun a1 a2 a3 a4 a5 a6 a7 a8 a9 a10 a11 a12 a13 a14 a15 a16 a17 a18 a19 a20 a21 a22 a23 a24 a25 a26 a27 a28 a29 a30 a31 a32 a33 a34 a35 a36 a37 h v35 v38 v51 =>
    k0_part2 (F := Ideal) i a1 a2 a3 a4 a5 a6 a7 a8 a9 a10 a11 a12 a13 a14 a15 a16 a17 a18 a19 a20 a21 a22 a23 a24 a25 a26 a27 a28 a29 a30 a31 a32 a33 a34 a35 a36 a37 h v35 v38 v51
      >>= fun r => pure ⟨r.1, lanes, mx r.1⟩ := by
  rw [Cert.KernelIdeal.Gen.k0_part2_eq_skeleton]
  rfl

section
variable {F : FTy → Type} [FloatOps F]
open Cert.KernelIdeal hiding S1x10
open Cert.KernelIdeal.Gen

set_option cleanup.letToHave false in
set_option maxHeartbeats 40000000 in
/-- The body over two values: the expert's word and the balance term. -/
def shape (p1 : FVec F S1x10 .f32 → IVec S1x10 32 → FVec F S1x10 .f32 → IVec S1x1 32)
    (p3 : FVec F S1x10 .f32 → IVec S1x10 32 → FVec F S1x10 .f32 → FVec F S1x10 .f32 → BitVec 32 → FVec F S1x1 .f32) (i : grid0.Coords) (arg2 : Memref sig .tc .vmem S10x768 .f32) (harg2 : arg2.IsWhole) (arg3 : Memref sig .tc .vmem S10x512 .f32) (harg3 : arg3.IsWhole) (arg4 : Memref sig .tc .vmem S10x2048 .f32) (harg4 : arg4.IsWhole) (arg5 : Memref sig .tc .vmem S768x768 .f32) (harg5 : arg5.IsWhole) (arg6 : Memref sig .tc .vmem S768 .f32) (harg6 : arg6.IsWhole) (arg7 : Memref sig .tc .hbm S2x2048x768 .f32) (harg7 : arg7.IsWhole) (arg8 : Memref sig .tc .hbm S10x512x2048 .f32) (harg8 : arg8.IsWhole) (arg9 : Memref sig .tc .hbm S10x2048x512 .f32) (harg9 : arg9.IsWhole) (arg10 : Memref sig .tc .vmem S1x1024x768 .f32) (harg10 : arg10.IsWhole) (arg11 : Memref sig .tc .vmem S1x1 .f32) (harg11 : arg11.IsWhole) (arg12 : Memref sig .tc .vmem S512x768 .f32) (harg12 : arg12.IsWhole) (arg13 : Memref sig .tc .vmem S4096x768 .f32) (harg13 : arg13.IsWhole) (arg14 : Memref sig .tc .vmem S512x2048 .f32) (harg14 : arg14.IsWhole) (arg15 : Memref sig .tc .vmem S2048x512 .f32) (harg15 : arg15.IsWhole) (arg16 : Memref sig .tc .vmem S1x10 .f32) (harg16 : arg16.IsWhole) (arg17 : Memref sig .tc .vmem S2048x1 .f32) (harg17 : arg17.IsWhole) (arg18 : Memref sig .tc .smem S2 .i32) (harg18 : arg18.IsWhole) (arg19 : DmaSems sig S4) (arg20 : DmaSems sig S_) (arg21 : DmaSems sig S2) :
    Prog (TpuEff nD τ sig (Elt F) Λ₀ .tc) PUnit := do
  let arg0 : BitVec 32 := BitVec.ofNat 32 (i 0).val
  let arg1 : BitVec 32 := BitVec.ofNat 32 (i 1).val
  let v0 : BitVec 1 := Scalar.cmpi .eq arg0 0#32
  let v1 : BitVec 1 := Scalar.cmpi .eq arg1 0#32
  let v2 : BitVec 1 := Scalar.andi v0 v1
  let v3 : BitVec 32 := Scalar.extui v2
  let v4 : BitVec 1 := Scalar.cmpi .ne v3 0#32
  if k0_h1 : v4 = 1#1 then do
    let v19 : DmaSems sig S1 := arg19.slice (Rect.unit (s := S4) ![0] S1.size inb_S4_S1_0)
    let v20 : DmaSems sig S_ := v19.squeeze S_ squeezes_S1_S_
    let v21 : Memref sig .tc .vmem S1024x768 .f32 := arg13.slice (Rect.unit (s := S4096x768) ![0, 0] S1024x768.size inb_S4096x768_S1024x768_0_0) (fun _ => rfl)
    let v22 : Memref sig .tc .hbm S1x1024x768 .f32 := arg7.slice (Rect.unit (s := S2x2048x768) ![0, 0, 0] S1x1024x768.size inb_S2x2048x768_S1x1024x768_0_0_0) (fun _ => rfl)
    let v23 : Memref sig .tc .hbm S1024x768 .f32 := v22.squeeze S1024x768 squeezes_S1x1024x768_S1024x768
    Prog.lift (.enqueueDma v23 (.here v21) (.dma v20.sem) ((View.wordExact_bits rfl).reshape _ _) (View.wordExact_bits rfl) ⟨Or.inl rfl, trivial⟩)
    let v24 : DmaSems sig S1 := arg19.slice (Rect.unit (s := S4) ![1] S1.size inb_S4_S1_1)
    let v25 : DmaSems sig S_ := v24.squeeze S_ squeezes_S1_S_
    let v26 : Memref sig .tc .vmem S1024x768 .f32 := arg13.slice (Rect.unit (s := S4096x768) ![1024, 0] S1024x768.size inb_S4096x768_S1024x768_1024_0) (fun _ => rfl)
    let v27 : Memref sig .tc .hbm S1x1024x768 .f32 := arg7.slice (Rect.unit (s := S2x2048x768) ![0, 1024, 0] S1x1024x768.size inb_S2x2048x768_S1x1024x768_0_1024_0) (fun _ => rfl)
    let v28 : Memref sig .tc .hbm S1024x768 .f32 := v27.squeeze S1024x768 squeezes_S1x1024x768_S1024x768
    Prog.lift (.enqueueDma v28 (.here v26) (.dma v25.sem) ((View.wordExact_bits rfl).reshape _ _) (View.wordExact_bits rfl) ⟨Or.inl rfl, trivial⟩)
    pure ⟨⟩
  else do
    pure ⟨⟩
  let v5 : BitVec 1 := Scalar.cmpi .eq arg0 0#32
  let v6 : BitVec 1 := Scalar.cmpi .eq arg1 1#32
  let v7 : BitVec 1 := Scalar.andi v5 v6
  let v8 : BitVec 32 := Scalar.extui v7
  let v9 : BitVec 1 := Scalar.cmpi .ne v8 0#32
  if k0_h2 : v9 = 1#1 then do
    let v19 : DmaSems sig S1 := arg19.slice (Rect.unit (s := S4) ![2] S1.size inb_S4_S1_2)
    let v20 : DmaSems sig S_ := v19.squeeze S_ squeezes_S1_S_
    let v21 : Memref sig .tc .vmem S1024x768 .f32 := arg13.slice (Rect.unit (s := S4096x768) ![2048, 0] S1024x768.size inb_S4096x768_S1024x768_2048_0) (fun _ => rfl)
    let v22 : Memref sig .tc .hbm S1x1024x768 .f32 := arg7.slice (Rect.unit (s := S2x2048x768) ![1, 0, 0] S1x1024x768.size inb_S2x2048x768_S1x1024x768_1_0_0) (fun _ => rfl)
    let v23 : Memref sig .tc .hbm S1024x768 .f32 := v22.squeeze S1024x768 squeezes_S1x1024x768_S1024x768
    Prog.lift (.enqueueDma v23 (.here v21) (.dma v20.sem) ((View.wordExact_bits rfl).reshape _ _) (View.wordExact_bits rfl) ⟨Or.inl rfl, trivial⟩)
    let v24 : DmaSems sig S1 := arg19.slice (Rect.unit (s := S4) ![3] S1.size inb_S4_S1_3)
    let v25 : DmaSems sig S_ := v24.squeeze S_ squeezes_S1_S_
    let v26 : Memref sig .tc .vmem S1024x768 .f32 := arg13.slice (Rect.unit (s := S4096x768) ![3072, 0] S1024x768.size inb_S4096x768_S1024x768_3072_0) (fun _ => rfl)
    let v27 : Memref sig .tc .hbm S1x1024x768 .f32 := arg7.slice (Rect.unit (s := S2x2048x768) ![1, 1024, 0] S1x1024x768.size inb_S2x2048x768_S1x1024x768_1_1024_0) (fun _ => rfl)
    let v28 : Memref sig .tc .hbm S1024x768 .f32 := v27.squeeze S1024x768 squeezes_S1x1024x768_S1024x768
    Prog.lift (.enqueueDma v28 (.here v26) (.dma v25.sem) ((View.wordExact_bits rfl).reshape _ _) (View.wordExact_bits rfl) ⟨Or.inl rfl, trivial⟩)
    pure ⟨⟩
  else do
    pure ⟨⟩
  if k0_h3 : k0_cond3 i = 1#1 then do
    let ⟨v35, v38, v51⟩ : Σ' (v35 : FVec F S1x768 .f32) (v38 : FVec F S1x768 .f32), BitVec 32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg0 k0_h3
    let ⟨v88, v89, v92⟩ : Σ' (v88 : FVec F S1x10 .f32) (v89 : IVec S1x10 32), FVec F S1x10 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 k0_h3 v35 v38 v51
    let v98 : BitVec 32 := extractAt ![0, 0] (p1 v88 v89 v92) inpos_S1x1_p0_0
    have k0_hw1 : k0_chk1 i v98 := (← Prog.lift (TpuEff.assume (k0_chk1 i v98) (k0_chk1.dec i v98))).down
    let v100 : Elt F .i32 ← smemLoad arg18 (Rect.unit (s := S2) (k0_off6 i) S1.size (k0_off6_inb i k0_h3)) numel1_S1 rfl
    Prog.lift (.store arg18 (Rect.unit (s := S2) (k0_off6 i) S1.size (k0_off6_inb i k0_h3)) (fun _ => v98) Finset.univ (View.stores_smem_one rfl numel1_S1) (.inl rfl))
    let v101 : Memref sig .tc .hbm S1x512x2048 .f32 := arg8.slice (Rect.unit (s := S10x512x2048) (k0_off7 v98) S1x512x2048.size (k0_off7_inb i v98 k0_hw1 k0_h3)) (fun _ => rfl)
    let v102 : Memref sig .tc .hbm S512x2048 .f32 := v101.squeeze S512x2048 squeezes_S1x512x2048_S512x2048
    Prog.lift (.enqueueDma v102 (.here arg14) (.dma arg20.sem) ((View.wordExact_bits rfl).reshape _ _) harg14.wordExact ⟨Or.inl rfl, trivial⟩)
    let v103 : DmaSems sig S1 := arg21.slice (Rect.unit (s := S2) ![0] S1.size inb_S2_S1_0)
    let v104 : DmaSems sig S_ := v103.squeeze S_ squeezes_S1_S_
    let v105 : Memref sig .tc .vmem S1024x512 .f32 := arg15.slice (Rect.unit (s := S2048x512) ![0, 0] S1024x512.size inb_S2048x512_S1024x512_0_0) (fun _ => rfl)
    let v106 : Memref sig .tc .hbm S1x1024x512 .f32 := arg9.slice (Rect.unit (s := S10x2048x512) (k0_off8 v98) S1x1024x512.size (k0_off8_inb i v98 k0_hw1 k0_h3)) (fun _ => rfl)
    let v107 : Memref sig .tc .hbm S1024x512 .f32 := v106.squeeze S1024x512 squeezes_S1x1024x512_S1024x512
    Prog.lift (.enqueueDma v107 (.here v105) (.dma v104.sem) ((View.wordExact_bits rfl).reshape _ _) (View.wordExact_bits rfl) ⟨Or.inl rfl, trivial⟩)
    let v108 : DmaSems sig S1 := arg21.slice (Rect.unit (s := S2) ![1] S1.size inb_S2_S1_1)
    let v109 : DmaSems sig S_ := v108.squeeze S_ squeezes_S1_S_
    let v110 : Memref sig .tc .vmem S1024x512 .f32 := arg15.slice (Rect.unit (s := S2048x512) ![1024, 0] S1024x512.size inb_S2048x512_S1024x512_1024_0) (fun _ => rfl)
    let v111 : Memref sig .tc .hbm S1x1024x512 .f32 := arg9.slice (Rect.unit (s := S10x2048x512) (k0_off9 v98) S1x1024x512.size (k0_off9_inb i v98 k0_hw1 k0_h3)) (fun _ => rfl)
    let v112 : Memref sig .tc .hbm S1024x512 .f32 := v111.squeeze S1024x512 squeezes_S1x1024x512_S1024x512
    Prog.lift (.enqueueDma v112 (.here v110) (.dma v109.sem) ((View.wordExact_bits rfl).reshape _ _) (View.wordExact_bits rfl) ⟨Or.inl rfl, trivial⟩)
    let v113 : BitVec 1 := Scalar.cmpi .eq arg0 0#32
    let v114 : BitVec 32 := Scalar.extui v113
    let v115 : BitVec 1 := Scalar.cmpi .ne v114 0#32
    if k0_h4 : v115 = 1#1 then do
      let v119 : Vec F S1x10 .f32 ← Prog.lift (.load arg16 (Rect.unit (s := S1x10) ![0, 0] S1x10.size inb_S1x10_S1x10_0_0).toLoadRect (View.loadsAt_vmem h_S1x10))
      Prog.lift (.store arg16 (Rect.unit (s := S1x10) ![0, 0] S1x10.size inb_S1x10_S1x10_0_0) (k0_pay2 v88) Finset.univ (View.stores_vmem_bits_univ h_S1x10 rfl) (.inl rfl))
      pure ⟨⟩
    else do
      pure ⟨⟩
    if k0_h5 : k0_cond5 i = 1#1 then do
      let v119 : Vec F S1x10 .f32 ← Prog.lift (.load arg16 (Rect.unit (s := S1x10) ![0, 0] S1x10.size inb_S1x10_S1x10_0_0).toLoadRect (View.loadsAt_vmem h_S1x10))
      let v120 : Elt F .i32 ← smemLoad arg18 (Rect.unit (s := S2) ![0] S1.size inb_S2_S1_0) numel1_S1 rfl
      let v143 : Vec F S1x1 .f32 ← Prog.lift (.load arg11 (Rect.unit (s := S1x1) ![0, 0] S1x1.size inb_S1x1_S1x1_0_0).toLoadRect (View.loadsAt_vmem h_S1x1))
      Prog.lift (.store arg11 (Rect.unit (s := S1x1) ![0, 0] S1x1.size inb_S1x1_S1x1_0_0) (p3 v88 v89 v92 v119 v120) Finset.univ (View.stores_vmem_bits_univ h_S1x1 rfl) (.inl rfl))
      pure ⟨⟩
    else do
      pure ⟨⟩
    pure ⟨⟩
  else do
    pure ⟨⟩
  if k0_h6 : k0_cond6 i = 1#1 then do
    let ⟨v52, v54, cst_24⟩ : Σ' (v52 : FVec F S512x768 .f32) (v54 : FVec F S512x768 .f32), F .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg0 k0_h6
    let v66 : Vec F S512x768 .f32 ← Prog.lift (.load arg12 (Rect.unit (s := S512x768) ![0, 0] S512x768.size inb_S512x768_S512x768_0_0).toLoadRect (View.loadsAt_vmem h_S512x768))
    Prog.lift (.store arg12 (Rect.unit (s := S512x768) ![0, 0] S512x768.size inb_S512x768_S512x768_0_0) (k0_pay4 v52 v54 cst_24) Finset.univ (View.stores_vmem_bits_univ h_S512x768 rfl) (.inl rfl))
    pure ⟨⟩
  else do
    pure ⟨⟩
  if k0_h7 : k0_cond7 i = 1#1 then do
    let v20 : Elt F .i32 ← smemLoad arg18 (Rect.unit (s := S2) (k0_off16 i) S1.size (k0_off16_inb i k0_h7)) numel1_S1 rfl
    have k0_hw3 : k0_chk3 i v20 := (← Prog.lift (TpuEff.assume (k0_chk3 i v20) (k0_chk3.dec i v20))).down
    let v24 : DmaSems sig S1 := arg21.slice (Rect.unit (s := S2) (k0_off17 i) S1.size (k0_off17_inb i k0_h7))
    let v25 : DmaSems sig S_ := v24.squeeze S_ squeezes_S1_S_
    let v26 : Memref sig .tc .vmem S1024x512 .f32 := arg15.slice (Rect.unit (s := S2048x512) (k0_off18 i) S1024x512.size (k0_off18_inb i k0_h7)) (fun _ => rfl)
    let v27 : Memref sig .tc .hbm S1x1024x512 .f32 := arg9.slice (Rect.unit (s := S10x2048x512) (k0_off19 i v20) S1x1024x512.size (k0_off19_inb i v20 k0_hw3 k0_h7)) (fun _ => rfl)
    let v28 : Memref sig .tc .hbm S1024x512 .f32 := v27.squeeze S1024x512 squeezes_S1x1024x512_S1024x512
    Prog.lift (.waitDma2 v25.sem v28 v26 ((View.wordExact_bits rfl).reshape _ _) (View.wordExact_bits rfl))
    let v31 : Vec F S1024x512 .f32 ← Prog.lift (.load arg15 (Rect.unit (s := S2048x512) (k0_off20 i) S1024x512.size (k0_off20_inb i k0_h7)).toLoadRect (View.loadsAt_vmem h_S1024x512))
    let v32 : Vec F S512x768 .f32 ← Prog.lift (.load arg12 (Rect.unit (s := S512x768) ![0, 0] S512x768.size inb_S512x768_S512x768_0_0).toLoadRect (View.loadsAt_vmem h_S512x768))
    let v36 : Vec F S1024x1 .f32 ← Prog.lift (.load arg17 (Rect.unit (s := S2048x1) (k0_off21 i) S1024x1.size (k0_off21_inb i k0_h7)).toLoadRect (View.loadsAt_vmem h_S1024x1))
    let v39 : Vec F S768x768 .f32 ← Prog.lift (.load arg5 (Rect.unit (s := S768x768) ![0, 0] S768x768.size inb_S768x768_S768x768_0_0).toLoadRect (View.loadsAt_vmem h_S768x768))
    let v41 : Vec F S768 .f32 ← Prog.lift (.load arg6 (Rect.unit (s := S768) ![0] S768.size inb_S768_S768_0).toLoadRect (View.loadsAt_vmem h_S768))
    let v45 : Vec F S1x1024x768 .f32 ← Prog.lift (.load arg10 (Rect.unit (s := S1x1024x768) ![0, 0, 0] S1x1024x768.size inb_S1x1024x768_S1x1024x768_0_0_0).toLoadRect (View.loadsAt_vmem h_S1x1024x768))
    Prog.lift (.store arg10 (Rect.unit (s := S1x1024x768) ![0, 0, 0] S1x1024x768.size inb_S1x1024x768_S1x1024x768_0_0_0) (k0_pay5 v31 v32 v36 v39 v41) Finset.univ (View.stores_vmem_bits_univ h_S1x1024x768 rfl) (.inl rfl))
    pure ⟨⟩
  else do
    pure ⟨⟩
  pure ⟨⟩

end

set_option maxHeartbeats 4000000 in
theorem skel_shape : Cert.KernelIdeal.Gen.cc0__body_skel (F := Ideal) = shape Cert.KernelIdeal.Gen.k0_pay1 Cert.KernelIdeal.Gen.k0_pay3 := rfl

set_option maxHeartbeats 4000000 in
theorem skel_shape_G : Cert.Guarded.Gen.cc0__guarded_body_skel (F := Ideal) = shape Cert.Guarded.Gen.k0_pay1 Cert.Guarded.Gen.k0_pay3 := rfl

set_option maxHeartbeats 4000000 in
theorem shape_fix (p q) : shape (F := Ideal) p q = shape (fix p) (fix q) := by
  funext i
  unfold shape
  rw [part2K]
  simp -zeta only [bind_assoc, pure_bind]
  rfl

theorem body_eq (i) : Cert.KernelIdeal.cc0__body (F := Ideal) i = Cert.Guarded.cc0__guarded_body (F := Ideal) i := by
  rw [Cert.KernelIdeal.Gen.cc0__body_eq_skeleton, Cert.Guarded.Gen.cc0__guarded_body_eq_skeleton, skel_shape, skel_shape_G,
    shape_fix, shape_fix Cert.Guarded.Gen.k0_pay1, fix1, fix3]

set_option maxHeartbeats 4000000 in
theorem defs₀_eq : Cert.KernelIdeal.defs₀ (F := Ideal) = Cert.Guarded.defs₀ (F := Ideal) := by
  unfold Cert.KernelIdeal.defs₀ Cert.Guarded.defs₀
  refine congrArg Defs.onTc ?_
  funext ℓ a
  match ℓ, a with
  | 0, (t, s) =>
    show Cert.KernelIdeal.cc0__body (F := Ideal) (Cert.KernelIdeal.grid0.coords t) _ _ _ _ _ _ _ _ _ _ _ _ _ _ _ _ _ _ _ _ _ _ _ _ _ _ _ _ _ _ _ _ _ _ _ _ _ = _
    rw [body_eq]
    rfl

theorem defs_K : Cert.KernelIdeal.defs (F := Ideal) = Cert.Guarded.defs (F := Ideal) :=
  congrArg (Pipeline.defs Cert.Guarded.pcfgs) defs₀_eq

theorem main_K : Cert.KernelIdeal.main (F := Ideal) = Cert.Guarded.main (F := Ideal) := rfl

theorem defs₀_G : Cert.GuardedIdeal.defs₀ (F := Ideal) = Cert.Guarded.defs₀ (F := Ideal) := by
  unfold Cert.GuardedIdeal.defs₀ Cert.Guarded.defs₀
  refine congrArg Defs.onTc ?_
  funext ℓ a
  match ℓ, a with
  | 0, (t, s) => rfl

theorem defs_G : Cert.GuardedIdeal.defs (F := Ideal) = Cert.Guarded.defs (F := Ideal) :=
  congrArg (Pipeline.defs Cert.Guarded.pcfgs) defs₀_G

theorem main_G : Cert.GuardedIdeal.main (F := Ideal) = Cert.Guarded.main (F := Ideal) := rfl

end Cert.Same

end
-- ==== Proof.Frames.lean ====
module

public import proofs.«01_k».proof.Defs
public import proofs.«01_k».proof.Proof.Ends
public import proofs.«01_k».proof.Proof.Same
public import proofs.«01_k».proof.Proof.Gen.ReferenceIdeal
public import proofs.«01_k».proof.Proof.Gen.ReferenceIdeal.Run

@[expose] public section

noncomputable section

/-! What each program of the certificate does, from any memory: the guarded program at any floats, the guarded and the
    unguarded program at the extended reals, and the reference. -/
namespace Cert.Frames

open Idealize.ShloMosaic Idealize.SL.Sem
open Cert.Guarded.Hand (outV auxV args run_all)

/-- A reference run ends with its semaphores at rest: it has none. -/
theorem rest_R (s : MemSt Cert.ReferenceIdeal.nD Cert.ReferenceIdeal.τ Cert.ReferenceIdeal.sig (Elt Ideal)) : s.sem = fun _ => 0 :=
  sem_eq_zero_of_no_sems rfl s

theorem frame_Guarded : Cert.quiescent_Guarded := fun m g _ =>
  θ_run_mono (run_all (F := Bits) m g) fun _ h => ⟨fun c => (h.1 c).2.2, h.2⟩

/-- The guarded program at the extended reals. -/
theorem run_G (m : (ℓ : Loc Cert.GuardedIdeal.nD Cert.GuardedIdeal.τ Cert.GuardedIdeal.sig) → Buf (Elt Ideal) ℓ)
    (g : Dev Cert.GuardedIdeal.nD → PrngReg) :
    θ_run (Cert.GuardedIdeal.defs (F := Ideal)) (onTc (τ := Cert.GuardedIdeal.τ) (Cert.GuardedIdeal.main (F := Ideal))) ⟨m, fun _ => 0, g⟩
      (fun r => (∀ c : Dev Cert.GuardedIdeal.nD,
        r.2.mem ((c.tc : Thread Cert.GuardedIdeal.nD Cert.GuardedIdeal.τ).loc Cert.GuardedIdeal.main_v0_0) = outV (args m c)
        ∧ r.2.mem ((c.tc : Thread Cert.GuardedIdeal.nD Cert.GuardedIdeal.τ).loc Cert.GuardedIdeal.main_v1) = auxV (args m c)
        ∧ r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
        ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1)
        ∧ r.2.mem ((c.tc : Thread Cert.GuardedIdeal.nD Cert.GuardedIdeal.τ).loc Cert.GuardedIdeal.main_arg2) = m ((c.tc : Thread Cert.GuardedIdeal.nD Cert.GuardedIdeal.τ).loc Cert.GuardedIdeal.main_arg2)
        ∧ r.2.mem ((c.tc : Thread Cert.GuardedIdeal.nD Cert.GuardedIdeal.τ).loc Cert.GuardedIdeal.main_arg3) = m ((c.tc : Thread Cert.GuardedIdeal.nD Cert.GuardedIdeal.τ).loc Cert.GuardedIdeal.main_arg3)
        ∧ r.2.mem ((c.tc : Thread Cert.GuardedIdeal.nD Cert.GuardedIdeal.τ).loc Cert.GuardedIdeal.main_arg4) = m ((c.tc : Thread Cert.GuardedIdeal.nD Cert.GuardedIdeal.τ).loc Cert.GuardedIdeal.main_arg4)
        ∧ r.2.mem ((c.tc : Thread Cert.GuardedIdeal.nD Cert.GuardedIdeal.τ).loc Cert.GuardedIdeal.main_arg5) = m ((c.tc : Thread Cert.GuardedIdeal.nD Cert.GuardedIdeal.τ).loc Cert.GuardedIdeal.main_arg5)
        ∧ r.2.mem ((c.tc : Thread Cert.GuardedIdeal.nD Cert.GuardedIdeal.τ).loc Cert.GuardedIdeal.main_arg6) = m ((c.tc : Thread Cert.GuardedIdeal.nD Cert.GuardedIdeal.τ).loc Cert.GuardedIdeal.main_arg6)
        ∧ r.2.mem ((c.tc : Thread Cert.GuardedIdeal.nD Cert.GuardedIdeal.τ).loc Cert.GuardedIdeal.main_arg7) = m ((c.tc : Thread Cert.GuardedIdeal.nD Cert.GuardedIdeal.τ).loc Cert.GuardedIdeal.main_arg7))
      ∧ r.2.sem = fun _ => 0) := by
  rw [Cert.Same.defs_G, Cert.Same.main_G]; exact run_all (F := Ideal) m g

/-- The unguarded program at the extended reals. -/
theorem run_K (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_v0_0) = outV (args m c)
        ∧ r.2.mem ((c.tc : Thread Cert.KernelIdeal.nD Cert.KernelIdeal.τ).loc Cert.KernelIdeal.main_v1) = auxV (args m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0) := by
  rw [Cert.Same.defs_K, Cert.Same.main_K]; exact run_all (F := Ideal) m g

theorem frame_GuardedIdeal : Cert.quiescent_GuardedIdeal := fun m g _ =>
  θ_run_mono (run_G m g) fun _ h => ⟨fun c => (h.1 c).2.2, h.2⟩

theorem frame_KernelIdeal : Cert.quiescent_KernelIdeal := fun m g _ =>
  θ_run_mono (run_K m g) fun _ h => ⟨fun c => (h.1 c).2.2, h.2⟩

theorem frame_ReferenceIdeal : Cert.quiescent_ReferenceIdeal := fun m g _ =>
  θ_run_mono (Cert.ReferenceIdeal.Value.run (F := Ideal) m g) fun r h => ⟨fun c => (h c).2.2, rest_R r.2⟩

end Cert.Frames

end
-- ==== Proof.Ref.lean ====
module

public import proofs.«01_k».proof.Proof.Base
public import proofs.«01_k».proof.Proof.Gen.ReferenceIdeal
public import proofs.«01_k».proof.Proof.Gen.ReferenceIdeal.Run
public import Idealize.ShloMosaic.PureOps.Ideal
public import Idealize.ShloMosaic.PureOps.Ideal.Laws
public import Idealize.ShloMosaic.Lib.Pointwise
public import Idealize.ShloMosaic.Lib.IdealHost

@[expose] public section

set_option maxRecDepth 16384

noncomputable section

/-! The reference's two results, in named steps, and each step read at an index. -/
namespace Cert.Ref

open Idealize.ShloMosaic
open Cert.ReferenceIdeal Cert.ReferenceIdeal.Gen
open Cert.Guarded.Hand (In)

variable (A : In Ideal)

abbrev zero : FVec Ideal S_ .f32 := constant S_ .f32 0x00000000#32

/-- The router's logits. -/
def logits : FVec Ideal S2x10 .f32 :=
  Host.dotGeneral (F := Ideal) (φ₂ := .f32) dot_S2x768_S768x10_S2x10_1_0_0_1_n_n none
    (Host.divf (Host.reduceAdd A.x zero reducesTo_S2x2048x768_S2x768_d1 h_S_) (broadcastInDim S2x768 ![] bcast_S_S2x768 (constant S_ .f32 0x45000000#32)))
    (transpose S768x10 [1, 0] A.rw transposes_S10x768_S768x10_1_0)
/-- Their maximum over the experts. -/
def top : FVec Ideal S2 .f32 := maximumf (broadcastInDim S2 ![] bcast_S_S2 (constant S_ .f32 0xFF800000#32))
  (Host.reduce FloatOps.maximumf (logits A) (constant S_ .f32 0xFF800000#32) reducesTo_S2x10_S2_d1 h_S_)
def expo : FVec Ideal S2x10 .f32 :=
  Host.exp (subf (logits A) (broadcastInDim S2x10 ![0, 1] bcast_S2x1_S2x10_0_1 (broadcastInDim S2x1 ![0] bcast_S2_S2x1_0 (top A))))
/-- The router's probabilities. -/
def probs : FVec Ideal S2x10 .f32 := Host.divf (expo A) (broadcastInDim S2x10 ![0, 1] bcast_S2x1_S2x10_0_1 (broadcastInDim S2x1 ![0] bcast_S2_S2x1_0
  (Host.reduceAdd (expo A) zero reducesTo_S2x10_S2_d1 h_S_)))
/-- The largest probability and its place. -/
def best : FVec Ideal S2x1 .f32 × IVec S2x1 32 := Host.topK S2x1 1 (FloatOps.cmpfTotal .gt) (probs A) sliceFits_S2x10_S2x1
def weight : FVec Ideal S2x1 .f32 := Host.divf (best A).1 (broadcastInDim S2x1 ![0] bcast_S2_S2x1_0 (Host.reduceAdd (best A).1 zero reducesTo_S2x1_S2_d1 h_S_))
/-- Each expert's weight. -/
def gate : FVec Ideal S10x2 .f32 := Host.reduceAdd
  (mulf (broadcastInDim S10x2x1 ![0, 1, 2] bcast_S1x2x1_S10x2x1_0_1_2 (broadcastInDim S1x2x1 ![1, 2] bcast_S2x1_S1x2x1_1_2 (weight A)))
    (uitofp .f32 (cmpi .eq (broadcastInDim S10x2x1 ![0, 1, 2] bcast_S1x2x1_S10x2x1_0_1_2 (broadcastInDim S1x2x1 ![1, 2] bcast_S2x1_S1x2x1_1_2 (best A).2))
      (broadcastInDim S10x2x1 ![0, 1, 2] bcast_S10x1x1_S10x2x1_0_1_2 (broadcastInDim S10x1x1 ![0] bcast_S10_S10x1x1_0 (iotaInDim S10 32 0))))))
  zero reducesTo_S10x2x1_S10x2_d2 h_S_
def count : FVec Ideal S2x768x1 .f32 := broadcastInDim S2x768x1 ![] bcast_S_S2x768x1 (constant S_ .f32 0x45000000#32)
def xt : FVec Ideal S2x768x2048 .f32 := transpose S2x768x2048 [0, 2, 1] A.x transposes_S2x2048x768_S2x768x2048_0_2_1
def mean : FVec Ideal S2x768x1 .f32 :=
  Host.divf (broadcastInDim S2x768x1 ![0, 1] bcast_S2x768_S2x768x1_0_1 (Host.reduceAdd (xt A) zero reducesTo_S2x768x2048_S2x768_d2 h_S_)) count
def cen : FVec Ideal S2x768x2048 .f32 := subf (xt A) (broadcastInDim S2x768x2048 ![0, 1, 2] bcast_S2x768x1_S2x768x2048_0_1_2 (mean A))
def var : FVec Ideal S2x768x1 .f32 :=
  Host.divf (broadcastInDim S2x768x1 ![0, 1] bcast_S2x768_S2x768x1_0_1 (Host.reduceAdd (mulf (cen A) (cen A)) zero reducesTo_S2x768x2048_S2x768_d2 h_S_)) count
def nrm : FVec Ideal S2x768x2048 .f32 := Host.divf (cen A) (broadcastInDim S2x768x2048 ![0, 1, 2] bcast_S2x768x1_S2x768x2048_0_1_2
  (Host.sqrt (addf (var A) (broadcastInDim S2x768x1 ![] bcast_S_S2x768x1 (constant S_ .f32 0x3727C5AC#32)))))
/-- The hidden layer before its activation, of every expert. -/
def hid : FVec Ideal S10x2x768x512 .f32 := addf
  (transpose S10x2x768x512 [2, 0, 1, 3] (Host.dotGeneral (F := Ideal) (φ₂ := .f32) dot_S2x768x2048_S10x2048x512_S2x768x10x512_2_1_01_02_n_n none (nrm A)
    (transpose S10x2048x512 [0, 2, 1] A.w1 transposes_S10x512x2048_S10x2048x512_0_2_1)) transposes_S2x768x10x512_S10x2x768x512_2_0_1_3)
  (broadcastInDim S10x2x768x512 ![0, 1, 2, 3] bcast_S10x1x1x512_S10x2x768x512_0_1_2_3 (broadcastInDim S10x1x1x512 ![0, 3] bcast_S10x512_S10x1x1x512_0_3 A.b1))
abbrev num (w : BitVec 32) : FVec Ideal S10x2x768x512 .f32 := broadcastInDim S10x2x768x512 ![] bcast_S_S10x2x768x512 (constant S_ .f32 w)
def act : FVec Ideal S10x2x768x512 .f32 := mulf (hid A) (mulf (num 0x3F000000#32) (addf (num 0x3F800000#32)
  (Host.tanh (mulf (num 0x3F4C422A#32) (addf (hid A) (mulf (num 0x3D372713#32) (mulf (mulf (hid A) (hid A)) (hid A))))))))
/-- Every expert's result. -/
def eo : FVec Ideal S10x2x2048x768 .f32 := transpose S10x2x2048x768 [0, 1, 3, 2]
  (addf (Host.dotGeneral (F := Ideal) (φ₂ := .f32) dot_S10x2x768x512_S10x512x2048_S10x2x768x2048_3_1_12_2_0_0 none (act A)
      (transpose S10x512x2048 [0, 2, 1] A.w2 transposes_S10x2048x512_S10x512x2048_0_2_1))
    (broadcastInDim S10x2x768x2048 ![0, 1, 2, 3] bcast_S10x1x1x2048_S10x2x768x2048_0_1_2_3 (broadcastInDim S10x1x1x2048 ![0, 3] bcast_S10x2048_S10x1x1x2048_0_3 A.b2)))
  transposes_S10x2x768x2048_S10x2x2048x768_0_1_3_2
/-- Their weighted sum. -/
def mixed : FVec Ideal S2x2048x768 .f32 := Host.reduceAdd (mulf (broadcastInDim S10x2x2048x768 ![0, 1, 2, 3] bcast_S10x2x1x1_S10x2x2048x768_0_1_2_3
  (broadcastInDim S10x2x1x1 ![0, 1] bcast_S10x2_S10x2x1x1_0_1 (gate A))) (eo A)) zero reducesTo_S10x2x2048x768_S2x2048x768_d0 h_S_
def out : FVec Ideal S2x2048x768 .f32 := addf
  (Host.dotGeneral (F := Ideal) (φ₂ := .f32) dot_S2x2048x768_S768x768_S2x2048x768_2_0_01_1_n_n none (mixed A) (transpose S768x768 [1, 0] A.ow transposes_S768x768_S768x768_1_0))
  (broadcastInDim S2x2048x768 ![0, 1, 2] bcast_S1x1x768_S2x2048x768_0_1_2 (broadcastInDim S1x1x768 ![2] bcast_S768_S1x1x768_2 A.ob))
/-- Which expert each batch row chose, as ones and zeros. -/
def hot : FVec Ideal S2x10 .f32 := uitofp .f32 (cmpi .eq
  (broadcastInDim S2x10 ![0, 1] bcast_S2x1_S2x10_0_1 (broadcastInDim S2x1 ![0] bcast_S2_S2x1_0 (shapeCast S2 (best A).2 shapeCasts_S2x1_S2)))
  (broadcastInDim S2x10 ![0, 1] bcast_S1x10_S2x10_0_1 (iotaInDim S1x10 32 1)))
abbrev two : FVec Ideal S10 .f32 := broadcastInDim S10 ![] bcast_S_S10 (constant S_ .f32 0x40000000#32)
def aux : FVec Ideal S_ .f32 := mulf (constant S_ .f32 0x41200000#32)
  (Host.reduceAdd (mulf (Host.divf (Host.reduceAdd (probs A) zero reducesTo_S2x10_S10_d0 h_S_) two) (Host.divf (Host.reduceAdd (hot A) zero reducesTo_S2x10_S10_d0 h_S_) two))
    zero reducesTo_S10_S_d0 h_S_)

/-- The reference's argument arrays. -/
def argsR (m : (ℓ : Loc nD τ sig) → Buf (Elt Ideal) ℓ) (c : Dev nD) : In Ideal where
  x := m ((c.tc : Thread nD τ).loc main_arg0)
  rw := m ((c.tc : Thread nD τ).loc main_arg1)
  w1 := m ((c.tc : Thread nD τ).loc main_arg2)
  b1 := m ((c.tc : Thread nD τ).loc main_arg3)
  w2 := m ((c.tc : Thread nD τ).loc main_arg4)
  b2 := m ((c.tc : Thread nD τ).loc main_arg5)
  ow := m ((c.tc : Thread nD τ).loc main_arg6)
  ob := m ((c.tc : Thread nD τ).loc main_arg7)

set_option maxHeartbeats 4000000 in
theorem out_is (m : (ℓ : Loc nD τ sig) → Buf (Elt Ideal) ℓ) (c : Dev nD) : Cert.ReferenceIdeal.Value.res_main_v82 m c = out (argsR m c) := rfl
set_option maxHeartbeats 4000000 in
theorem aux_is (m : (ℓ : Loc nD τ sig) → Buf (Elt Ideal) ℓ) (c : Dev nD) : Cert.ReferenceIdeal.Value.res_main_v93 m c = aux (argsR m c) := rfl

end Cert.Ref

end
-- ==== Proof.Top.lean ====
module

public import proofs.«01_k».proof.Proof.Ref
public import proofs.«01_k».proof.Proof.Pick
public import Idealize.ShloMosaic.Lib.SortFacts

@[expose] public section

set_option maxRecDepth 16384

noncomputable section

/-! The reference's choice of an expert is the first of the largest probabilities. -/
namespace Cert.Top

open Idealize.ShloMosaic
open Cert.ReferenceIdeal Cert.ReferenceIdeal.Gen
open Cert.Guarded.Hand (In)
open Cert.Ref Cert.Pick

/-- Position `k` sorts before position `k'`. -/
def before (g : Fin 10 → EReal) (k k' : Fin 10) : Bool := FloatOps.cmpfTotal (F := Ideal) (φ := .f32) .gt (g k) (g k') == 1#1

theorem before_iff (g : Fin 10 → EReal) (k k' : Fin 10) : before g k k' = true ↔ g k' < g k := by
  unfold before
  show (BitVec.ofBool (decide (g k' < g k)) == 1#1) = true ↔ _
  by_cases h : g k' < g k <;> simp [h]

/-- The head of an increasing list sorted from the largest down is the first of the largest. -/
theorem head_sorted (g : Fin 10 → EReal) : ∀ l : List (Fin 10), l.Pairwise (· < ·) → ∀ h ∈ (stableSort (before g) l).head?,
    h ∈ l ∧ ∀ k ∈ l, g k ≤ g h ∧ (g k = g h → h ≤ k)
  | [], _, h, hh => by simp [stableSort] at hh
  | a :: l, hp, h, hh => by
    rw [List.pairwise_cons] at hp
    have ih := head_sorted g l hp.2
    have hperm := perm_stableSort (before g) l
    unfold stableSort at hh
    cases hs : stableSort (before g) l with
    | nil =>
      rw [hs] at hh hperm
      have hl : l = [] := List.nil_perm.mp hperm
      have : a = h := by simpa [insertBefore] using hh
      subst this hl
      simp
    | cons b m =>
      rw [hs] at hh ih
      obtain ⟨hb, hm⟩ := ih b (by simp)
      unfold insertBefore at hh
      split at hh
      · rename_i hba
        rw [before_iff] at hba
        have : b = h := by simpa using hh
        subst this
        refine ⟨List.mem_cons_of_mem _ hb, fun k hk => ?_⟩
        rcases List.mem_cons.mp hk with rfl | hk
        · exact ⟨hba.le, fun he => absurd he hba.ne⟩
        · exact hm k hk
      · rename_i hba
        rw [before_iff, not_lt] at hba
        have : a = h := by simpa using hh
        subst this
        refine ⟨List.mem_cons_self, fun k hk => ?_⟩
        rcases List.mem_cons.mp hk with rfl | hk
        · exact ⟨le_rfl, fun _ => le_rfl⟩
        · exact ⟨(hm k hk).1.trans hba, fun _ => (hp.1 k hk).le⟩

theorem sorted_pick (g : Fin 10 → EReal) : IsPick g (sortedFrom (before g) 0) := by
  have hh : sortedFrom (before g) 0 ∈ (stableSort (before g) (List.finRange 10)).head? := by
    unfold sortedFrom sortPositions
    rw [List.head?_eq_getElem?]
    exact List.getElem?_eq_some_iff.mpr ⟨by rw [length_stableSort]; decide, rfl⟩
  obtain ⟨-, h⟩ := head_sorted g _ (List.pairwise_lt_finRange 10) _ hh
  exact ⟨fun k => (h k (List.mem_finRange k)).1, fun k => (h k (List.mem_finRange k)).2⟩

variable (A : In Ideal)

theorem row_along (b : Fin 2) (k : Fin 10) : (ix2 b 0 : S2x10.Idx).along 1 k = ix2 b k := by
  funext a; fin_cases a <;> rfl

theorem sorted_at (x : S2x10.Idx → EReal) (y : IVec S2x10 32) (b : Fin 2) :
    ∃ e, IsPick (fun k => x (ix2 b k)) e
      ∧ (Host.sort2 S2x10 1 (fun l r => FloatOps.cmpfTotal (F := Ideal) (φ := .f32) .gt l.1 r.1) x y).1 (ix2 b 0) = x (ix2 b e)
      ∧ (Host.sort2 S2x10 1 (fun l r => FloatOps.cmpfTotal (F := Ideal) (φ := .f32) .gt l.1 r.1) x y).2 (ix2 b 0) = y (ix2 b e) := by
  have hs : (fun k k' : Fin 10 => FloatOps.cmpfTotal (F := Ideal) (φ := .f32) .gt (x ((ix2 b 0 : S2x10.Idx).along 1 k)) (x ((ix2 b 0 : S2x10.Idx).along 1 k')) == 1#1)
      = before fun k => x (ix2 b k) := by
    funext k k'
    rw [row_along, row_along]
    rfl
  have hz : sortedFrom (fun k k' : Fin 10 => FloatOps.cmpfTotal (F := Ideal) (φ := .f32) .gt (x ((ix2 b 0 : S2x10.Idx).along 1 k)) (x ((ix2 b 0 : S2x10.Idx).along 1 k')) == 1#1) 0
      = sortedFrom (before fun k => x (ix2 b k)) 0 := by rw [hs]
  refine ⟨_, sorted_pick _, ?_, ?_⟩
  · exact congrArg x ((congrArg ((ix2 b 0 : S2x10.Idx).along 1) hz).trans (row_along b _))
  · exact congrArg y ((congrArg ((ix2 b 0 : S2x10.Idx).along 1) hz).trans (row_along b _))

theorem slice_at {α : Type} (x : S2x10.Idx → α) (b : Fin 2) :
    extractStridedSlice S2x1 (fun _ => 0) x sliceFits_S2x10_S2x1 (ix2 b 0) = x (ix2 b 0) :=
  congrArg x (funext fun a => by fin_cases a <;> exact Fin.ext (Nat.zero_add _))

theorem best_eq (b : Fin 2) : ∃ e, IsPick (fun k => probs A (ix2 b k)) e ∧ (best A).1 (ix2 b 0) = probs A (ix2 b e)
    ∧ (best A).2 (ix2 b 0) = BitVec.ofNat 32 e.val := by
  obtain ⟨e, he, h1, h2⟩ := sorted_at (probs A) (fun i => if hd : 1 < S2x10.rank then iotaInDim S2x10 32 ⟨1, hd⟩ i else 0#32) b
  exact ⟨e, he, (slice_at _ b).trans h1, (slice_at _ b).trans h2⟩

end Cert.Top

end
-- ==== Proof.Num.lean ====
module

public import Idealize.ShloMosaic.PureOps.Ideal
public import Idealize.ShloMosaic.PureOps.Ideal.Laws
public import Idealize.ShloMosaic.Lib.IdealHost

@[expose] public section

set_option maxRecDepth 16384

noncomputable section

/-! Facts about extended reals. -/
namespace Cert.Num

open Idealize.ShloMosaic

/-! ## The literals -/

theorem lit_n : Ideal.ofBits .f32 1157627904#32 = ((2048 : ℝ) : EReal) := by
  simp [Ideal.ofBits, Ideal.ieee, -EReal.coe_mul]; norm_num
theorem lit_inv_n : Ideal.ofBits .f32 973078528#32 = ((2048⁻¹ : ℝ) : EReal) := by
  simp [Ideal.ofBits, Ideal.ieee, -EReal.coe_mul]; norm_num
theorem lit_two : Ideal.ofBits .f32 1073741824#32 = ((2 : ℝ) : EReal) := by
  simp [Ideal.ofBits, Ideal.ieee, -EReal.coe_mul]; norm_num
theorem lit_half : Ideal.ofBits .f32 1056964608#32 = ((2⁻¹ : ℝ) : EReal) := by
  simp [Ideal.ofBits, Ideal.ieee, -EReal.coe_mul]; norm_num
theorem lit_bot : Ideal.ofBits .f32 4286578688#32 = ⊥ := by
  simp [Ideal.ofBits, Ideal.ieee]
theorem lit_eps : ∃ e : ℝ, 0 < e ∧ Ideal.ofBits .f32 925353388#32 = (e : EReal) := by
  refine ⟨10995116 * 2 ^ (-40 : ℤ), by positivity, ?_⟩
  simp [Ideal.ofBits, Ideal.ieee, -EReal.coe_mul]
  try norm_num

/-! ## Quotients -/

theorem div_coe (x : EReal) {r : ℝ} (hr : r ≠ 0) : Ideal.div x (r : EReal) = x * ((r⁻¹ : ℝ) : EReal) := by
  unfold Ideal.div
  rw [if_neg (by exact_mod_cast hr), EReal.coe_inv]

theorem div_n (x : EReal) : Ideal.div x (Ideal.ofBits .f32 1157627904#32) = x * Ideal.ofBits .f32 973078528#32 := by
  rw [lit_n, lit_inv_n, div_coe x (by norm_num)]

theorem div_two (x : EReal) : Ideal.div x (Ideal.ofBits .f32 1073741824#32) = x * Ideal.ofBits .f32 1056964608#32 := by
  rw [lit_two, lit_half, div_coe x (by norm_num)]

theorem div_self {r : ℝ} (hr : r ≠ 0) : Ideal.div (r : EReal) (r : EReal) = 1 := by
  rw [div_coe _ hr, ← EReal.coe_mul, mul_inv_cancel₀ hr, EReal.coe_one]

/-- A sum of reals is a real. -/
theorem coe_sum {ι : Type} [Fintype ι] (f : ι → ℝ) : ∑ i, (f i : EReal) = ((∑ i, f i : ℝ) : EReal) :=
  (map_sum (⟨⟨Real.toEReal, EReal.coe_zero⟩, EReal.coe_add⟩ : ℝ →+ EReal) f Finset.univ).symm

/-! ## The bits of a comparison -/

theorem bit_unsigned (p : Bool) : FloatOps.uitofp (F := Ideal) .f32 (BitVec.ofBool p) = if p then (1 : EReal) else 0 := by
  show (((BitVec.ofBool p).toNat : ℝ) : EReal) = _
  cases p <;> simp

theorem bit_signed (p : Bool) : FloatOps.sitofp (F := Ideal) .f32 (BitVec.setWidth 32 (BitVec.ofBool p)) = if p then (1 : EReal) else 0 := by
  show (((BitVec.setWidth 32 (BitVec.ofBool p)).toInt : ℝ) : EReal) = _
  cases p
  · have : (BitVec.setWidth 32 (BitVec.ofBool false)).toInt = 0 := by decide
    rw [this]; simp
  · have : (BitVec.setWidth 32 (BitVec.ofBool true)).toInt = 1 := by decide
    rw [this]; simp

theorem same_unsigned {a b : BitVec 32} : FloatOps.uitofp (F := Ideal) .f32 (IntOp.cmpi .eq a b) = if a = b then (1 : EReal) else 0 := by
  have h : IntOp.cmpi .eq a b = BitVec.ofBool (a == b) := by first | rfl | simp [IntOp.cmpi]
  rw [h, bit_unsigned]
  simp

theorem same_signed {a b : BitVec 32} : FloatOps.sitofp (F := Ideal) .f32 (BitVec.setWidth 32 (IntOp.cmpi .eq a b)) = if a = b then (1 : EReal) else 0 := by
  have h : IntOp.cmpi .eq a b = BitVec.ofBool (a == b) := by first | rfl | simp [IntOp.cmpi]
  rw [h, bit_signed]
  simp

/-- Small numbers are told apart as words. -/
theorem word_inj {a b : Fin 10} : BitVec.ofNat 32 a.val = BitVec.ofNat 32 b.val ↔ a = b := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-! ## The layer norm -/

/-- The mean of the squared differences is the mean square less the squared mean. -/
theorem variance (f : Fin 2048 → ℝ) : (∑ i, (f i - (∑ i, f i) * 2048⁻¹) * (f i - (∑ i, f i) * 2048⁻¹)) * 2048⁻¹
    = (∑ i, f i * f i) * 2048⁻¹ - ((∑ i, f i) * 2048⁻¹) * ((∑ i, f i) * 2048⁻¹) := by
  generalize hm : (∑ i, f i) * 2048⁻¹ = m
  have hs : ∑ i, f i = 2048 * m := by rw [← hm]; ring
  have h : ∀ i, (f i - m) * (f i - m) = f i * f i - 2 * m * f i + m * m := fun i => by ring
  simp only [h, Finset.sum_add_distrib, Finset.sum_sub_distrib, ← Finset.mul_sum, hs, Finset.sum_const, Finset.card_univ, Fintype.card_fin, nsmul_eq_mul]
  push_cast
  ring

/-- Both ways of dividing by the deviation agree on reals. -/
theorem norm_eq (f : Fin 2048 → EReal) (hf : ∀ i, ∃ r : ℝ, f i = r) (n : Fin 2048) :
    Ideal.div (f n - Ideal.div (∑ i, f i) (Ideal.ofBits .f32 1157627904#32))
        (Ideal.sqrt (Ideal.div (∑ i, (f i - Ideal.div (∑ i, f i) (Ideal.ofBits .f32 1157627904#32)) * (f i - Ideal.div (∑ i, f i) (Ideal.ofBits .f32 1157627904#32)))
          (Ideal.ofBits .f32 1157627904#32) + Ideal.ofBits .f32 925353388#32))
      = (f n - (∑ i, f i) * Ideal.ofBits .f32 973078528#32)
        * Ideal.div 1 (Ideal.sqrt ((∑ i, f i * f i) * Ideal.ofBits .f32 973078528#32
          - ((∑ i, f i) * Ideal.ofBits .f32 973078528#32) * ((∑ i, f i) * Ideal.ofBits .f32 973078528#32) + Ideal.ofBits .f32 925353388#32)) := by
  choose r hr using hf
  obtain ⟨e, he, hE⟩ := lit_eps
  have hf : f = fun i => (r i : EReal) := funext hr
  subst hf
  simp only [div_n, hE, lit_inv_n, ← EReal.coe_mul, ← EReal.coe_sub, coe_sum, ← EReal.coe_add]
  rw [variance r, Ideal.mul_one_div]
  rw [← variance r, Ideal.sqrt_coe]
  have hp : 0 < (∑ i, (r i - (∑ i, r i) * 2048⁻¹) * (r i - (∑ i, r i) * 2048⁻¹)) * 2048⁻¹ + e := by
    have : 0 ≤ ∑ i, (r i - (∑ i, r i) * 2048⁻¹) * (r i - (∑ i, r i) * 2048⁻¹) := Finset.sum_nonneg fun i _ => mul_self_nonneg _
    positivity
  rw [if_neg hp.le.not_gt]
  exact_mod_cast (Real.sqrt_pos.mpr hp).ne'

/-- A quotient of an exponential of reals by a sum of such is a nonzero real. -/
theorem soft_real (f : Fin 10 → EReal) (t : EReal) (hf : ∀ i, ∃ r : ℝ, f i = r) (ht : ∃ r : ℝ, t = r) (k : Fin 10) :
    ∃ r : ℝ, r ≠ 0 ∧ Ideal.div (Ideal.exp (f k - t)) (∑ i, Ideal.exp (f i - t)) = r := by
  choose r hr using hf
  obtain ⟨u, rfl⟩ := ht
  have hf : f = fun i => (r i : EReal) := funext hr
  subst hf
  have hx : ∀ i, Ideal.exp ((r i : EReal) - (u : EReal)) = ((Real.exp (r i - u) : ℝ) : EReal) := fun i => by
    rw [← EReal.coe_sub]; rfl
  have hp : 0 < ∑ i, Real.exp (r i - u) := Finset.sum_pos (fun i _ => Real.exp_pos _) ⟨0, Finset.mem_univ _⟩
  refine ⟨Real.exp (r k - u) * (∑ i, Real.exp (r i - u))⁻¹, by positivity, ?_⟩
  simp only [hx, coe_sum]
  rw [div_coe _ hp.ne', ← EReal.coe_mul]

end Cert.Num

end
-- ==== Proof.Equation.lean ====
module

public import proofs.«01_k».proof.Proof.Ends
public import proofs.«01_k».proof.Proof.Top
public import proofs.«01_k».proof.Proof.Num

@[expose] public section

set_option maxRecDepth 16384

noncomputable section

/-! The kernel's results are the reference's. -/
namespace Cert.Equation

open Idealize.ShloMosaic
open Cert.Guarded Cert.Guarded.Gen Cert.Guarded.Hand
open Cert.Ref (logits top expo probs best weight gate nrm cen var mean xt act eo mixed out hot two aux)
open Cert.Pick Cert.Top Cert.Num

variable (A : In Ideal) (b : Fin 2)

/-! ## The column sums -/

/-- One column of a batch row. -/
def col (d : Fin 768) (n : Fin 2048) : EReal := A.x (ix3 b n d)
/-- Its mean. -/
def avg (d : Fin 768) : EReal := (∑ n, col A b d n) * Ideal.ofBits .f32 973078528#32

theorem halves (f : Fin 2048 → EReal) : ∑ x : Fin 1024, f ⟨x.val, by omega⟩ + ∑ x : Fin 1024, f ⟨1024 + x.val, by omega⟩ = ∑ x, f x :=
  (Fin.sum_univ_two_halves 1024 1024 rfl f).symm

theorem mu_at (d : Fin 768) : mu A b (ix2 0 d) = avg A b d := by
  pointwise [mu, k0_pay9, k0_pay8, k0_pay6, xc]
  exact congrArg (· * _) (halves (col A b d))

theorem rs_at (d : Fin 768) : rs A b (ix2 0 d) = Ideal.div 1 (Ideal.sqrt ((∑ n, col A b d n * col A b d n) * Ideal.ofBits .f32 973078528#32
    - avg A b d * avg A b d + Ideal.ofBits .f32 925353388#32)) := by
  rw [← mu_at, ← halves fun n => col A b d n * col A b d n]
  pointwise [rs, mu, k0_pay9, k0_pay10, k0_pay7, k0_pay8, k0_pay6, xc]
  rfl

/-! ## The router -/

theorem logits_at (e : Fin 10) : logits A (ix2 b e) = ∑ d, avg A b d * A.rw (ix2 e d) := by
  pointwise [logits]
  refine Finset.sum_congr rfl fun d _ => ?_
  rw [div_n]
  rfl

theorem top_at : top A (ix1 b) = Finset.univ.fold max ⊥ fun e => logits A (ix2 b e) := by
  pointwise [top]
  rw [lit_bot, max_eq_right bot_le]

theorem probs_at (e : Fin 10) : probs A (ix2 b e)
    = Ideal.div (Ideal.exp (logits A (ix2 b e) - top A (ix1 b))) (∑ x, Ideal.exp (logits A (ix2 b x) - top A (ix1 b))) := by
  pointwise [probs, expo]

theorem pr_at (e : Fin 10) : pr A b (ix2 0 e) = probs A (ix2 b e) := by
  rw [probs_at, top_at]
  simp only [logits_at]
  pointwise [pr, k0_pay11, k0_pay8, k0_pay6, xc]
  have h : ∀ d, (∑ x : Fin 1024, A.x (ix3 b ⟨x.val, by omega⟩ d) + ∑ x : Fin 1024, A.x (ix3 b ⟨1024 + x.val, by omega⟩ d)) = ∑ n, col A b d n :=
    fun d => halves (col A b d)
  simp only [h, lit_bot]
  rfl

/-- The chosen expert: the first of the most probable. -/
theorem chosen : IsPick (fun k => probs A (ix2 b k)) (ex A b) ∧ ew A b = BitVec.ofNat 32 (ex A b).val := by
  obtain ⟨e, he⟩ := exists_pick fun k => probs A (ix2 b k)
  have hp : (fun k => pr A b (ix2 0 k)) = fun k => probs A (ix2 b k) := funext (pr_at A b)
  have hw : (ew A b).toNat = e.val := word_G (pr A b) (hp ▸ he)
  have hx : ex A b = e := Fin.ext ((fin10_val (by omega)).trans hw)
  rw [hx]
  refine ⟨he, BitVec.eq_of_toNat_eq (hw.trans ?_)⟩
  rw [BitVec.toNat_ofNat, Nat.mod_eq_of_lt (by omega)]

theorem best_at : (best A).1 (ix2 b 0) = probs A (ix2 b (ex A b)) ∧ (best A).2 (ix2 b 0) = BitVec.ofNat 32 (ex A b).val := by
  obtain ⟨e, he, h1, h2⟩ := best_eq A b
  rw [← he.unique (chosen A b).1]
  exact ⟨h1, h2⟩

/-! ## The second result -/

theorem hot_at (e : Fin 10) : FloatOps.uitofp (F := Ideal) .f32 (IntOp.cmpi .eq ((best A).2 (ix2 b 0)) (BitVec.ofNat 32 e.val)) = if ex A b = e then (1 : EReal) else 0 := by
  rw [same_unsigned, (best_at A b).2]
  exact if_congr word_inj rfl rfl

theorem mask_at (e : Fin 10) : FloatOps.sitofp (F := Ideal) .f32 (BitVec.setWidth 32 (IntOp.cmpi .eq (BitVec.ofNat 32 e.val) (ew A b))) = if ex A b = e then (1 : EReal) else 0 := by
  rw [same_signed, (chosen A b).2]
  exact if_congr (word_inj.trans eq_comm) rfl rfl

theorem aux_eq : auxV A = aux A := by
  funext y
  have hy : y = Idealize.ShloMosaic.ix0 := Subsingleton.elim _ _
  subst hy
  have hw : k0_pay1 (pr A 1) (iota .tc S1x10 32 [1] iota_S1x10_d1_w32) (pm A 1) (ix2 0 0) = ew A 1 := rfl
  pointwise [auxV, ax, k0_pay3, lanes, aux, hot]
  simp only [hw, mask_at, hot_at, pr_at, div_two, Fin.sum_univ_two, Fin.sum_univ_one]

/-! ## The first result, where the tokens and the router's weights are finite -/

section finite
variable (hx : ∀ i, ∃ r : ℝ, A.x i = r) (hw : ∀ i, ∃ r : ℝ, A.rw i = r)
include hx

theorem xn_at (n : Fin 2048) (d : Fin 768) : xn A b (ix2 n d) = nrm A (ix3 b d n) := by
  have h := norm_eq (col A b d) (fun n => hx _) n
  pointwise [xn, k0_pay13, xf, nrm, cen, var, mean, xt, Cert.Ref.count]
  rw [mu_at, rs_at]
  exact h.symm

theorem avg_real (d : Fin 768) : ∃ r : ℝ, avg A b d = r := by
  choose r hr using hx
  refine ⟨(∑ n, r (ix3 b n d)) * 2048⁻¹, ?_⟩
  unfold avg col
  simp only [hr, coe_sum, lit_inv_n, ← EReal.coe_mul]

theorem hid_at (k : Fin 512) (d : Fin 768) :
    k0_pay15 (w1e A (ex A b)) (xn A b) (b1e A (ex A b)) (ix2 k d) = Cert.Ref.hid A (ix4 (ex A b) b d k) := by
  pointwise [k0_pay15, w1e, b1e, Cert.Ref.hid]
  exact congrArg (· + _) (Finset.sum_congr rfl fun n _ => by rw [xn_at A b hx, mul_comm])

theorem hh_at (k : Fin 512) (d : Fin 768) : hh A b (ix2 k d) = act A (ix4 (ex A b) b d k) := by
  pointwise [hh, k0_pay4, k0_pay16, act]
  rw [hid_at A b hx]
  rw [mul_assoc (Cert.Ref.hid A _)]

include hw

theorem logits_real (e : Fin 10) : ∃ r : ℝ, logits A (ix2 b e) = r := by
  choose r hr using avg_real A b hx
  choose w hw using hw
  refine ⟨∑ d, r d * w (ix2 e d), ?_⟩
  rw [logits_at]
  simp only [hr, hw, ← EReal.coe_mul, coe_sum]

theorem top_real : ∃ r : ℝ, top A (ix1 b) = r := by
  obtain ⟨e, he⟩ := exists_pick fun k => logits A (ix2 b k)
  rw [top_at, fold_max_eq he]
  exact logits_real A b hx hw e

/-- The one weight is one. -/
theorem weight_at : weight A (ix2 b 0) = 1 := by
  obtain ⟨r, hr, h⟩ := soft_real (fun e => logits A (ix2 b e)) _ (logits_real A b hx hw) (top_real A b hx hw) (ex A b)
  pointwise [weight]
  rw [Fin.sum_univ_one]
  rw [(best_at A b).1, probs_at, h, Cert.Num.div_self hr]

theorem gate_at (e : Fin 10) : gate A (ix2 e b) = if ex A b = e then 1 else 0 := by
  pointwise [gate]
  rw [Fin.sum_univ_one, weight_at A b hx hw, one_mul, hot_at]

theorem mixed_at (n : Fin 2048) (d : Fin 768) : mixed A (ix3 b n d) = eo A (ix4 (ex A b) b n d) := by
  pointwise [mixed]
  simp only [gate_at A b hx hw, ite_mul, one_mul, zero_mul, Finset.sum_ite_eq, Finset.mem_univ, if_true]

theorem ob_at (j : Fin 2) (i : Fin 1024) (n : Fin 2048) (hn : n.val = 1024 * j.val + i.val) (d : Fin 768) : ob A b j (ix3 0 i d) = out A (ix3 b n d) := by
  have he : ∀ x, eo A (ix4 (ex A b) b n x) = ∑ k, A.w2 (ix3 (ex A b) n k) * hh A b (ix2 k x) + A.b2 (ix2 (ex A b) n) := fun x => by
    simp only [hh_at A b hx]
    pointwise [eo]
    exact congrArg (· + _) (Finset.sum_congr rfl fun k _ => mul_comm _ _)
  obtain ⟨n, hl⟩ := n
  change n = _ at hn
  subst hn
  pointwise [out]
  simp only [mixed_at A b hx hw, he]
  pointwise [ob, k0_pay5, w2e, fbc, fb, k0_pay14, b2e]

theorem out_eq : outV A = out A := by
  funext y
  have h1 : (y 1).val < 2048 := (y 1).isLt
  have hy : y = ix3 (y 0) (y 1) (y 2) := by funext a; fin_cases a <;> rfl
  rw [hy]
  exact ob_at A (y 0) hx hw _ _ (y 1) (by show (y 1).val = 1024 * ((y 1).val / 1024) + (y 1).val % 1024; omega) (y 2)

end finite

end Cert.Equation

end
-- ==== Proof.Values.lean ====
module

public import proofs.«01_k».proof.Defs
public import proofs.«01_k».proof.Proof.Gen.Pre_finite_routing
public import proofs.«01_k».proof.Proof.Frames
public import proofs.«01_k».proof.Proof.Equation

@[expose] public section

set_option maxRecDepth 16384

noncomputable section

/-! The value claims: each kernel writes what the reference writes. -/
namespace Cert.Values

open Idealize.ShloMosaic Idealize.SL.Sem
open Cert.Guarded.Hand (In outV auxV args)
open Cert.Ref (argsR out aux out_is aux_is)

theorem lit_top : Ideal.ofBits .f32 0x7F800000#32 = ⊤ := by simp [Ideal.ofBits, Ideal.ieee]

/-- A number whose absolute value is below the infinite one is a real. -/
theorem real_of_abs {x : EReal} (h : FloatOps.cmpf (F := Ideal) (φ := .f32) .olt (FloatOps.absf (F := Ideal) (φ := .f32) x) (Ideal.ofBits .f32 0x7F800000#32) = 1#1) :
    ∃ r : ℝ, x = r := by
  rw [lit_top] at h
  induction x with
  | bot => exact absurd h (by simp [FloatOps.cmpf, FloatOps.absf, Ideal.cmp])
  | top => exact absurd h (by simp [FloatOps.cmpf, FloatOps.absf, Ideal.cmp])
  | coe r => exact ⟨r, rfl⟩

/-- What the precondition says of the arguments. -/
theorem finite_of_pre (A : In Ideal)
    (h : (Cert.Pre_finite_routing.fn (F := Ideal) A.x A.rw A.w1 A.b1 A.w2 A.b2 A.ow A.ob).1 = (fun _ => 1#1)
      ∧ (Cert.Pre_finite_routing.fn (F := Ideal) A.x A.rw A.w1 A.b1 A.w2 A.b2 A.ow A.ob).2 = (fun _ => 1#1)) :
    (∀ i, ∃ r : ℝ, A.x i = r) ∧ ∀ i, ∃ r : ℝ, A.rw i = r :=
  ⟨fun i => real_of_abs (congrFun h.1 i), fun i => real_of_abs (congrFun h.2 i)⟩

/-- On arguments of which the precondition holds the reference's results are the kernel's. -/
theorem reference_writes (m' : (ℓ : Loc Cert.ReferenceIdeal.nD Cert.ReferenceIdeal.τ Cert.ReferenceIdeal.sig) → Buf (Elt Ideal) ℓ)
    (c : Dev Cert.ReferenceIdeal.nD) {A : In Ideal} (he : argsR m' c = A)
    (h : (Cert.Pre_finite_routing.fn (F := Ideal) A.x A.rw A.w1 A.b1 A.w2 A.b2 A.ow A.ob).1 = (fun _ => 1#1)
      ∧ (Cert.Pre_finite_routing.fn (F := Ideal) A.x A.rw A.w1 A.b1 A.w2 A.b2 A.ow A.ob).2 = (fun _ => 1#1)) :
    Cert.ReferenceIdeal.Value.res_main_v82 m' c = outV A ∧ Cert.ReferenceIdeal.Value.res_main_v93 m' c = auxV A := by
  obtain ⟨hx, hw⟩ := finite_of_pre A h
  rw [out_is, aux_is, he]
  exact ⟨(Cert.Equation.out_eq A hx hw).symm, (Cert.Equation.aux_eq A).symm⟩

theorem algebraic_G : Cert.algebraic_GuardedIdeal_ReferenceIdeal_pre_finite_routing := by
  intro m g m' g' hp ha
  refine ⟨fun c => outV (args m c), fun c => auxV (args m c), θ_run_mono (Cert.Frames.run_G m g) fun _ h => h.1,
    θ_run_mono (Cert.ReferenceIdeal.Value.run (F := Ideal) m' g') fun r h c => ?_⟩
  have he : argsR m' c = args m c := by
    obtain ⟨h0, h1, h2, h3, h4, h5, h6, h7⟩ := ha c
    unfold argsR args
    rw [h0, h1, h2, h3, h4, h5, h6, h7]
  have hv := reference_writes m' c he (hp c)
  exact ⟨(h c).1.trans hv.1, (h c).2.1.trans hv.2, (h c).2.2⟩

theorem algebraic_K : Cert.algebraic_KernelIdeal_ReferenceIdeal_pre_finite_routing := by
  intro m g m' g' hp ha
  refine ⟨fun c => outV (args m c), fun c => auxV (args m c), θ_run_mono (Cert.Frames.run_K m g) fun _ h => h.1,
    θ_run_mono (Cert.ReferenceIdeal.Value.run (F := Ideal) m' g') fun r h c => ?_⟩
  have he : argsR m' c = args m c := by
    obtain ⟨h0, h1, h2, h3, h4, h5, h6, h7⟩ := ha c
    unfold argsR args
    rw [h0, h1, h2, h3, h4, h5, h6, h7]
  have hv := reference_writes m' c he (hp c)
  exact ⟨(h c).1.trans hv.1, (h c).2.1.trans hv.2, (h c).2.2⟩

end Cert.Values

end
-- ==== Proof.lean ====
/- The proof of the certificate's claims, assembled from the modules beside it. -/
module

public import proofs.«01_k».proof.Defs
public import proofs.«01_k».proof.Proof.Gen.Guarded
public import proofs.«01_k».proof.Proof.Gen.Guarded.Skeleton
public import proofs.«01_k».proof.Proof.Gen.Guarded.Launch
public import proofs.«01_k».proof.Proof.Gen.Guarded.Points
public import proofs.«01_k».proof.Proof.Gen.Guarded.Frame
public import proofs.«01_k».proof.Proof.Gen.GuardedIdeal
public import proofs.«01_k».proof.Proof.Gen.GuardedIdeal.Skeleton
public import proofs.«01_k».proof.Proof.Gen.GuardedIdeal.Launch
public import proofs.«01_k».proof.Proof.Gen.GuardedIdeal.Points
public import proofs.«01_k».proof.Proof.Gen.GuardedIdeal.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_routing
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Guarded

/-- The certificate's claims, in order: the frames, the idealization and the two value claims. -/
theorem claim : Cert.Claim :=
  ⟨Cert.Guarded.Gen.facts, Cert.GuardedIdeal.Gen.facts, Cert.KernelIdeal.Gen.facts, Cert.ReferenceIdeal.Gen.facts, Cert.Pre_finite_routing.Gen.facts,
    Cert.Frames.frame_Guarded,
    Cert.Frames.frame_GuardedIdeal, fun m g _ => Cert.Frames.frame_GuardedIdeal m g trivial,
    Cert.Frames.frame_KernelIdeal, fun m g _ => Cert.Frames.frame_KernelIdeal m g trivial,
    Cert.Frames.frame_ReferenceIdeal, fun m g _ => Cert.Frames.frame_ReferenceIdeal m g trivial,
    trivial, Cert.Values.algebraic_G, Cert.Values.algebraic_K⟩

end Cert.Proof

end
